-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tie_free [hPre_tie_free : Cert.Pre_tie_free.Facts] (m : (ℓ : Loc Cert.KernelIdeal.nD Cert.KernelIdeal.τ Cert.KernelIdeal.sig) → Buf (Elt Ideal) ℓ) : Prop :=
  ∀ c : Dev Cert.KernelIdeal.nD,
    (Cert.Pre_tie_free.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tie_free [hPre_tie_free : Cert.Pre_tie_free.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tie_free.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_tie_free [hKernelIdeal : Cert.KernelIdeal.Facts] [hPre_tie_free : Cert.Pre_tie_free.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tie_free m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_tie_free [hReferenceIdeal : Cert.ReferenceIdeal.Facts] [hPre_tie_free : Cert.Pre_tie_free.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tie_free m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_tie_free [hKernelIdeal : Cert.KernelIdeal.Facts] [hReferenceIdeal : Cert.ReferenceIdeal.Facts] [hPre_tie_free : Cert.Pre_tie_free.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tie_free m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_tie_free : Cert.Pre_tie_free.Facts),
    quiescent_Kernel (hKernel := hKernel)
    ∧ quiescent_KernelIdeal (hKernelIdeal := hKernelIdeal)
    ∧ quiescent_KernelIdeal_pre_tie_free (hKernelIdeal := hKernelIdeal) (hPre_tie_free := hPre_tie_free)
    ∧ quiescent_ReferenceIdeal (hReferenceIdeal := hReferenceIdeal)
    ∧ quiescent_ReferenceIdeal_pre_tie_free (hReferenceIdeal := hReferenceIdeal) (hPre_tie_free := hPre_tie_free)
    ∧ preserves_Kernel_KernelIdeal
    ∧ algebraic_KernelIdeal_ReferenceIdeal_pre_tie_free (hKernelIdeal := hKernelIdeal) (hReferenceIdeal := hReferenceIdeal) (hPre_tie_free := hPre_tie_free)
-- ==== Pre_tie_free.lean ====
abbrev S32x64x256x64 : Shape := ⟨4, ![32, 64, 256, 64]⟩
abbrev S32x256x64x64 : Shape := ⟨4, ![32, 256, 64, 64]⟩
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S8192x64x9 : Shape := ⟨3, ![8192, 64, 9]⟩
abbrev S8192x64x7 : Shape := ⟨3, ![8192, 64, 7]⟩
abbrev S8192x64x8 : Shape := ⟨3, ![8192, 64, 8]⟩

class Facts : Prop where
  transposes_S32x64x256x64_S32x256x64x64_0_2_1_3 : S32x64x256x64.Transposes [0, 2, 1, 3] S32x256x64x64
  shapeCasts_S32x256x64x64_S8192x64x64 : S32x256x64x64.ShapeCasts S8192x64x64
  reducesTo_S8192x64x64_S8192x64_d2 : S8192x64x64.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x64_0_1_2 : S8192x64x1.BroadcastsInDim S8192x64x64 (![0, 1, 2] : Fin 3 → Fin S8192x64x64.rank)
  bcast_S_S8192x64x64 : S_.BroadcastsInDim S8192x64x64 (![] : Fin 0 → Fin S8192x64x64.rank)
  bcast_S_S8192x64 : S_.BroadcastsInDim S8192x64 (![] : Fin 0 → Fin S8192x64.rank)
  sliceFits_S8192x64x64_S8192x64x9 : S8192x64x64.Slices (fun _ => 0) S8192x64x9
  slices_S8192x64x9_S8192x64x7_0_0_1 : S8192x64x9.Slices ![0, 0, 1] S8192x64x7
  slices_S8192x64x9_S8192x64x7_0_0_2 : S8192x64x9.Slices ![0, 0, 2] S8192x64x7
  reducesTo_S8192x64x7_S8192x64_d2 : S8192x64x7.ReducesTo [2] S8192x64
  slices_S8192x64x9_S8192x64x8_0_0_0 : S8192x64x9.Slices ![0, 0, 0] S8192x64x8
  bcast_S_S8192x64x8 : S_.BroadcastsInDim S8192x64x8 (![] : Fin 0 → Fin S8192x64x8.rank)
  reducesTo_S8192x64x8_S8192x64_d2 : S8192x64x8.ReducesTo [2] S8192x64
  shapeCasts_S8192x64x1_S8192x64 : S8192x64x1.ShapeCasts S8192x64
  dot_S8192x64x64_S8192x64x64_S8192x64x64_2_2_1_1_0_0_wf : DotDims.WF S8192x64x64 S8192x64x64 S8192x64x64 [2] [2] [1] [1] [0] [0]

variable [Facts]

def dot_S8192x64x64_S8192x64x64_S8192x64x64_2_2_1_1_0_0 : DotDims S8192x64x64 S8192x64x64 S8192x64x64 where
  lhsContracting := [2]
  rhsContracting := [2]
  lhsNonContracting := [1]
  rhsNonContracting := [1]
  lhsBatch := [0]
  rhsBatch := [0]
  wf := dot_S8192x64x64_S8192x64x64_S8192x64x64_2_2_1_1_0_0_wf
def fn_part2 {F : FTy → Type} [FloatOps F] (main_v32 : IVec S8192x64 1) (main_v35 : IVec S8192x64 1) : IVec S8192x64 1 :=
  let main_v36 : IVec S8192x64 1 := andi main_v32 main_v35
  main_v36

def fn_part1 {F : FTy → Type} [FloatOps F] (main_v5 : FVec F S8192x64x1 .f32) (main_v18 : FVec F S8192x64x64 .f32) : IVec S8192x64 1 :=
  let main_v19 : FVec F S8192x64x64 .f32 := Host.exp main_v18
  let main_cst_4 : FVec F S_ .f32 := constant S_ .f32 0x00000000#32
  let main_v20 : FVec F S8192x64 .f32 := (fun x v => Host.reduceAdd x v reducesTo_S8192x64x64_S8192x64_d2 h_S_) main_v19 main_cst_4
  let main_v21 : FVec F S8192x64x1 .f32 := broadcastInDim S8192x64x1 ![0, 1] bcast_S8192x64_S8192x64x1_0_1 main_v20
  let main_v22 : FVec F S8192x64x64 .f32 := broadcastInDim S8192x64x64 ![0, 1, 2] bcast_S8192x64x1_S8192x64x64_0_1_2 main_v21
  let main_v23 : FVec F S8192x64x64 .f32 := Host.divf main_v19 main_v22
  let main_values : FVec F S8192x64x9 .f32 := (fun x => (Host.topK S8192x64x9 2 (FloatOps.cmpfTotal .gt) x sliceFits_S8192x64x64_S8192x64x9).1) main_v23
  let main_indices : IVec S8192x64x9 32 := (fun x => (Host.topK S8192x64x9 2 (FloatOps.cmpfTotal .gt) x sliceFits_S8192x64x64_S8192x64x9).2) main_v23
  let main_v24 : FVec F S8192x64x7 .f32 := (extractStridedSlice S8192x64x7 ![0, 0, 1] · slices_S8192x64x9_S8192x64x7_0_0_1) main_values
  let main_v25 : FVec F S8192x64x7 .f32 := (extractStridedSlice S8192x64x7 ![0, 0, 2] · slices_S8192x64x9_S8192x64x7_0_0_2) main_values
  let main_v26 : IVec S8192x64x7 1 := cmpf .ogt main_v24 main_v25
  let main_c : IVec S_ 1 := constantI S_ 1 1#1
  let main_v27 : IVec S8192x64 1 := (fun x v => Host.reduce IntOp.andi x v reducesTo_S8192x64x7_S8192x64_d2 h_S_) main_v26 main_c
  let main_v28 : FVec F S8192x64x8 .f32 := (extractStridedSlice S8192x64x8 ![0, 0, 0] · slices_S8192x64x9_S8192x64x8_0_0_0) main_values
  let main_cst_5 : FVec F S_ .f32 := constant S_ .f32 0x38D1B717#32
  let main_v29 : FVec F S8192x64x8 .f32 := broadcastInDim S8192x64x8 ![] bcast_S_S8192x64x8 main_cst_5
  let main_v30 : IVec S8192x64x8 1 := cmpf .une main_v28 main_v29
  let main_c_6 : IVec S_ 1 := constantI S_ 1 1#1
  let main_v31 : IVec S8192x64 1 := (fun x v => Host.reduce IntOp.andi x v reducesTo_S8192x64x8_S8192x64_d2 h_S_) main_v30 main_c_6
  let main_v32 : IVec S8192x64 1 := andi main_v27 main_v31
  let main_v33 : FVec F S8192x64 .f32 := shapeCast S8192x64 main_v5 shapeCasts_S8192x64x1_S8192x64
  let main_cst_7 : FVec F S_ .f32 := constant S_ .f32 0x2B8CBCCC#32
  let main_v34 : FVec F S8192x64 .f32 := broadcastInDim S8192x64 ![] bcast_S_S8192x64 main_cst_7
  let main_v35 : IVec S8192x64 1 := cmpf .oge main_v33 main_v34
  fn_part2 (F := F) main_v32 main_v35

def fn {F : FTy → Type} [FloatOps F] (main_arg0 : FVec F S32x64x256x64 .f32) : IVec S8192x64 1 :=
  let main_v0 : FVec F S32x256x64x64 .f32 := (transpose S32x256x64x64 [0, 2, 1, 3] · transposes_S32x64x256x64_S32x256x64x64_0_2_1_3) main_arg0
  let main_v1 : FVec F S8192x64x64 .f32 := shapeCast S8192x64x64 main_v0 shapeCasts_S32x256x64x64_S8192x64x64
  let main_v2 : FVec F S8192x64x64 .f32 := mulf main_v1 main_v1
  let main_cst : FVec F S_ .f32 := constant S_ .f32 0x00000000#32
  let main_v3 : FVec F S8192x64 .f32 := (fun x v => Host.reduceAdd x v reducesTo_S8192x64x64_S8192x64_d2 h_S_) main_v2 main_cst
  let main_v4 : FVec F S8192x64x1 .f32 := broadcastInDim S8192x64x1 ![0, 1] bcast_S8192x64_S8192x64x1_0_1 main_v3
  let main_v5 : FVec F S8192x64x1 .f32 := Host.sqrt main_v4
  let main_cst_0 : FVec F S_ .f32 := constant S_ .f32 0x2B8CBCCC#32
  let main_v6 : FVec F S8192x64x1 .f32 := broadcastInDim S8192x64x1 ![] bcast_S_S8192x64x1 main_cst_0
  let main_v7 : FVec F S8192x64x1 .f32 := maximumf main_v5 main_v6
  let main_v8 : FVec F S8192x64x64 .f32 := broadcastInDim S8192x64x64 ![0, 1, 2] bcast_S8192x64x1_S8192x64x64_0_1_2 main_v7
  let main_v9 : FVec F S8192x64x64 .f32 := Host.divf main_v1 main_v8
  let main_v10 : FVec F S8192x64x64 .f32 := (fun l r => Host.dotGeneral dot_S8192x64x64_S8192x64x64_S8192x64x64_2_2_1_1_0_0 none l r) main_v9 main_v9
  let main_cst_1 : FVec F S_ .f32 := constant S_ .f32 0x3DCCCCCD#32
  let main_v11 : FVec F S8192x64x64 .f32 := broadcastInDim S8192x64x64 ![] bcast_S_S8192x64x64 main_cst_1
  let main_v12 : FVec F S8192x64x64 .f32 := Host.divf main_v10 main_v11
  let main_cst_2 : FVec F S_ .f32 := constant S_ .f32 0xFF800000#32
  let main_v13 : FVec F S8192x64 .f32 := (fun x v => Host.reduce FloatOps.maximumf x v reducesTo_S8192x64x64_S8192x64_d2 h_S_) main_v12 main_cst_2
  let main_cst_3 : FVec F S_ .f32 := constant S_ .f32 0xFF800000#32
  let main_v14 : FVec F S8192x64 .f32 := broadcastInDim S8192x64 ![] bcast_S_S8192x64 main_cst_3
  let main_v15 : FVec F S8192x64 .f32 := maximumf main_v14 main_v13
  let main_v16 : FVec F S8192x64x1 .f32 := broadcastInDim S8192x64x1 ![0, 1] bcast_S8192x64_S8192x64x1_0_1 main_v15
  let main_v17 : FVec F S8192x64x64 .f32 := broadcastInDim S8192x64x64 ![0, 1, 2] bcast_S8192x64x1_S8192x64x64_0_1_2 main_v16
  let main_v18 : FVec F S8192x64x64 .f32 := subf main_v12 main_v17
  fn_part1 (F := F) main_v5 main_v18
-- ==== Kernel.lean ====
abbrev S32x64x256x64 : Shape := ⟨4, ![32, 64, 256, 64]⟩
abbrev S32x256x64x64 : Shape := ⟨4, ![32, 256, 64, 64]⟩
abbrev S1x64x256x64 : Shape := ⟨4, ![1, 64, 256, 64]⟩
abbrev S1x256x64x64 : Shape := ⟨4, ![1, 256, 64, 64]⟩
abbrev S1x64x32x64 : Shape := ⟨4, ![1, 64, 32, 64]⟩
abbrev S64x32x64 : Shape := ⟨3, ![64, 32, 64]⟩
abbrev S32x64x64 : Shape := ⟨3, ![32, 64, 64]⟩
abbrev S2048x64 : Shape := ⟨2, ![2048, 64]⟩
abbrev S64x64 : Shape := ⟨2, ![64, 64]⟩
abbrev S1x64x64 : Shape := ⟨3, ![1, 64, 64]⟩
abbrev S64x2048 : Shape := ⟨2, ![64, 2048]⟩
abbrev S2048 : Shape := ⟨1, ![2048]⟩
abbrev S1x2048 : Shape := ⟨2, ![1, 2048]⟩
abbrev S1x32x64x64 : Shape := ⟨4, ![1, 32, 64, 64]⟩

abbrev nBuf : Space → Nat
  | .hbm => 2
  | .vmem => 4
  | .smem => 0
  | _ => 0

abbrev bufTy : (tb : Table) → Fin (tcTables nBuf tb) → BufTy
  | .hbm, ⟨0, _⟩ => ⟨S32x64x256x64, .f32⟩
  | .hbm, ⟨1, _⟩ => ⟨S32x256x64x64, .f32⟩
  | .local _ .vmem, ⟨0, _⟩ => ⟨S1x64x256x64, .f32⟩
  | .local _ .vmem, ⟨1, _⟩ => ⟨S1x64x256x64, .f32⟩
  | .local _ .vmem, ⟨2, _⟩ => ⟨S1x256x64x64, .f32⟩
  | .local _ .vmem, ⟨3, _⟩ => ⟨S1x256x64x64, .f32⟩
  | _, _ => ⟨S32x64x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S32x64x256x64 : Shape := ⟨4, ![32, 64, 256, 64]⟩
abbrev S32x256x64x64 : Shape := ⟨4, ![32, 256, 64, 64]⟩
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S8192x64x8 : Shape := ⟨3, ![8192, 64, 8]⟩
abbrev S8192 : Shape := ⟨1, ![8192]⟩
abbrev S8192x1x1 : Shape := ⟨3, ![8192, 1, 1]⟩
abbrev S64 : Shape := ⟨1, ![64]⟩
abbrev S1x64x1 : Shape := ⟨3, ![1, 64, 1]⟩
abbrev S8192x64x8x1 : Shape := ⟨4, ![8192, 64, 8, 1]⟩
abbrev S8192x64x8x3 : Shape := ⟨4, ![8192, 64, 8, 3]⟩

abbrev nBuf : Space → Nat
  | .hbm => 79
  | .vmem => 0
  | .smem => 0
  | _ => 0

abbrev bufTy : (tb : Table) → Fin (tcTables nBuf tb) → BufTy
  | .hbm, ⟨0, _⟩ => ⟨S32x64x256x64, .f32⟩
  | .hbm, ⟨1, _⟩ => ⟨S32x256x64x64, .f32⟩
  | .hbm, ⟨2, _⟩ => ⟨S8192x64x64, .f32⟩
  | .hbm, ⟨3, _⟩ => ⟨S8192x64x64, .f32⟩
  | .hbm, ⟨4, _⟩ => ⟨S_, .f32⟩
  | .hbm, ⟨5, _⟩ => ⟨S8192x64, .f32⟩
  | .hbm, ⟨6, _⟩ => ⟨S8192x64x1, .f32⟩
  | .hbm, ⟨7, _⟩ => ⟨S8192x64x1, .f32⟩
  | .hbm, ⟨8, _⟩ => ⟨S_, .f32⟩
  | .hbm, ⟨9, _⟩ => ⟨S8192x64x1, .f32⟩
  | .hbm, ⟨10, _⟩ => ⟨S8192x64x1, .f32⟩
  | .hbm, ⟨11, _⟩ => ⟨S8192x64x64, .f32⟩
  | .hbm, ⟨12, _⟩ => ⟨S8192x64x64, .f32⟩
  | .hbm, ⟨13, _⟩ => ⟨S8192x64x64, .f32⟩
  | .hbm, ⟨14, _⟩ => ⟨S_, .f32⟩
  | .hbm, ⟨15, _⟩ => ⟨S8192x64x64, .f32⟩
  | .hbm, ⟨16, _⟩ => ⟨S8192x64x64, .f32⟩
  | .hbm, ⟨17, _⟩ => ⟨S_, .f32⟩
  | .hbm, ⟨18, _⟩ => ⟨S8192x64, .f32⟩
  | .hbm, ⟨19, _⟩ => ⟨S_, .f32⟩
  | .hbm, ⟨20, _⟩ => ⟨S8192x64, .f32⟩
  | .hbm, ⟨21, _⟩ => ⟨S8192x64, .f32⟩
  | .hbm, ⟨22, _⟩ => ⟨S8192x64x1, .f32⟩
  | .hbm, ⟨23, _⟩ => ⟨S8192x64x64, .f32⟩
  | .hbm, ⟨24, _⟩ => ⟨S8192x64x64, .f32⟩
  | .hbm, ⟨25, _⟩ => ⟨S8192x64x64, .f32⟩
  | .hbm, ⟨26, _⟩ => ⟨S_, .f32⟩
  | .hbm, ⟨27, _⟩ => ⟨S8192x64, .f32⟩
  | .hbm, ⟨28, _⟩ => ⟨S8192x64x1, .f32⟩
  | .hbm, ⟨29, _⟩ => ⟨S8192x64x64, .f32⟩
  | .hbm, ⟨30, _⟩ => ⟨S8192x64x64, .f32⟩
  | .hbm, ⟨31, _⟩ => ⟨S8192x64x8, .f32⟩
  | .hbm, ⟨32, _⟩ => ⟨S8192x64x8, .i32⟩
  | .hbm, ⟨33, _⟩ => ⟨S8192, .i32⟩
  | .hbm, ⟨34, _⟩ => ⟨S8192x1x1, .i32⟩
  | .hbm, ⟨35, _⟩ => ⟨S64, .i32⟩
  | .hbm, ⟨36, _⟩ => ⟨S1x64x1, .i32⟩
  | .hbm, ⟨37, _⟩ => ⟨S_, .f32⟩
  | .hbm, ⟨38, _⟩ => ⟨S8192x64x64, .f32⟩
  | .hbm, ⟨39, _⟩ => ⟨S_, .i32⟩
  | .hbm, ⟨40, _⟩ => ⟨S8192x1x1, .i32⟩
  | .hbm, ⟨41, _⟩ => ⟨S8192x1x1, .i1⟩
  | .hbm, ⟨42, _⟩ => ⟨S_, .i32⟩
  | .hbm, ⟨43, _⟩ => ⟨S8192x1x1, .i32⟩
  | .hbm, ⟨44, _⟩ => ⟨S8192x1x1, .i32⟩
  | .hbm, ⟨45, _⟩ => ⟨S8192x1x1, .i32⟩
  | .hbm, ⟨46, _⟩ => ⟨S_, .i32⟩
  | .hbm, ⟨47, _⟩ => ⟨S1x64x1, .i32⟩
  | .hbm, ⟨48, _⟩ => ⟨S1x64x1, .i1⟩
  | .hbm, ⟨49, _⟩ => ⟨S_, .i32⟩
  | .hbm, ⟨50, _⟩ => ⟨S1x64x1, .i32⟩
  | .hbm, ⟨51, _⟩ => ⟨S1x64x1, .i32⟩
  | .hbm, ⟨52, _⟩ => ⟨S1x64x1, .i32⟩
  | .hbm, ⟨53, _⟩ => ⟨S_, .i32⟩
  | .hbm, ⟨54, _⟩ => ⟨S8192x64x8, .i32⟩
  | .hbm, ⟨55, _⟩ => ⟨S8192x64x8, .i1⟩
  | .hbm, ⟨56, _⟩ => ⟨S_, .i32⟩
  | .hbm, ⟨57, _⟩ => ⟨S8192x64x8, .i32⟩
  | .hbm, ⟨58, _⟩ => ⟨S8192x64x8, .i32⟩
  | .hbm, ⟨59, _⟩ => ⟨S8192x64x8, .i32⟩
  | .hbm, ⟨60, _⟩ => ⟨S8192x64x8, .i32⟩
  | .hbm, ⟨61, _⟩ => ⟨S8192x64x8, .i32⟩
  | .hbm, ⟨62, _⟩ => ⟨S8192x64x8x1, .i32⟩
  | .hbm, ⟨63, _⟩ => ⟨S8192x64x8x1, .i32⟩
  | .hbm, ⟨64, _⟩ => ⟨S8192x64x8x1, .i32⟩
  | .hbm, ⟨65, _⟩ => ⟨S8192x64x8x3, .i32⟩
  | .hbm, ⟨66, _⟩ => ⟨S8192x64x64, .f32⟩
  | .hbm, ⟨67, _⟩ => ⟨S_, .f32⟩
  | .hbm, ⟨68, _⟩ => ⟨S8192x64x64, .f32⟩
  | .hbm, ⟨69, _⟩ => ⟨S8192x64x64, .i1⟩
  | .hbm, ⟨70, _⟩ => ⟨S_, .f32⟩
  | .hbm, ⟨71, _⟩ => ⟨S8192x64x64, .f32⟩
  | .hbm, ⟨72, _⟩ => ⟨S8192x64x64, .f32⟩
  | .hbm, ⟨73, _⟩ => ⟨S8192x64x64, .f32⟩
  | .hbm, ⟨74, _⟩ => ⟨S8192x64x64, .f32⟩
  | .hbm, ⟨75, _⟩ => ⟨S_, .f32⟩
  | .hbm, ⟨76, _⟩ => ⟨S8192x64x64, .f32⟩
  | .hbm, ⟨77, _⟩ => ⟨S8192x64x64, .f32⟩
  | .hbm, ⟨78, _⟩ => ⟨S32x256x64x64, .f32⟩
  | _, _ => ⟨S32x64x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_values : Ref sig .tc := ⟨.hbm, 31, rfl⟩
abbrev main_indices : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Proof.PreFacts.lean ====
/- The side conditions of the precondition's operations. -/
module

public import proofs.«01_k».proof.Pre_tie_free

@[expose] public section

set_option maxRecDepth 16384
set_option synthInstance.maxSize 4096

namespace Cert.Pre_tie_free

open Idealize.ShloMosaic

/-- Every operation of the precondition fits the shapes it is used at. -/
theorem facts : Facts where
  transposes_S32x64x256x64_S32x256x64x64_0_2_1_3 := by decide
  shapeCasts_S32x256x64x64_S8192x64x64 := by decide
  reducesTo_S8192x64x64_S8192x64_d2 := by decide
  h_S_ := by decide
  bcast_S8192x64_S8192x64x1_0_1 := by decide
  bcast_S_S8192x64x1 := by decide
  bcast_S8192x64x1_S8192x64x64_0_1_2 := by decide
  bcast_S_S8192x64x64 := by decide
  bcast_S_S8192x64 := by decide
  sliceFits_S8192x64x64_S8192x64x9 := by decide
  slices_S8192x64x9_S8192x64x7_0_0_1 := by decide
  slices_S8192x64x9_S8192x64x7_0_0_2 := by decide
  reducesTo_S8192x64x7_S8192x64_d2 := by decide
  slices_S8192x64x9_S8192x64x8_0_0_0 := by decide
  bcast_S_S8192x64x8 := by decide
  reducesTo_S8192x64x8_S8192x64_d2 := by decide
  shapeCasts_S8192x64x1_S8192x64 := by decide
  dot_S8192x64x64_S8192x64x64_S8192x64x64_2_2_1_1_0_0_wf := by decide

attribute [instance] facts

end Cert.Pre_tie_free
-- ==== Proof.Chunk.lean ====
/- What one chunk of the kernel's block computes, as one function of the chunk it loads: the block's eight
   chunks of 32 time steps run the same operations. -/
module

public import proofs.«01_k».proof.Proof.Gen.KernelIdeal.Frame

@[expose] public section

noncomputable section

namespace Cert.KernelIdeal.Chunk

open Cert.KernelIdeal Cert.KernelIdeal.Gen Idealize.ShloMosaic Idealize.SL.Sem

variable {F : FTy → Type} [FloatOps F]

/-- Taking time step `t` out of the 32 of a chunk stays inside the chunk. -/
theorem slices_step (t : Fin 32) : S32x64x64.Slices ![t.val, 0, 0] S1x64x64 := by
  revert t; decide

/-- The chunk's vectors, time step first, each scaled by the reciprocal root of its scaled sum of squares. -/
def unit (v0 : Vec F S1x64x32x64 .f32) : FVec F S32x64x64 .f32 :=
  have v1 : FVec F S64x32x64 .f32 := shapeCast S64x32x64 v0 shapeCasts_S1x64x32x64_S64x32x64
  have v2 : FVec F S32x64x64 .f32 := transpose S32x64x64 [1, 0, 2] v1 transposes_S64x32x64_p1_0_2_S32x64x64
  have v3 : FVec F S2048x64 .f32 := shapeCast S2048x64 v2 shapeCasts_S32x64x64_S2048x64
  have v4 : FVec F S64x64 .f32 := broadcast S64x64 (Scalar.ofBits .f32 0x3DCCCCCD#32)
  have v6 : FVec F S2048x64 .f32 := matmul dot_S2048x64_S64x64_S2048x64_1_0_0_1_n_n none (mulf v3 v3) v4 (constant S2048x64 .f32 0x00000000#32)
  shapeCast S32x64x64 (mulf v3 (rsqrt v6)) shapeCasts_S2048x64_S32x64x64

/-- The vectors of time step `t`, one per row. -/
def rows (v9 : FVec F S32x64x64 .f32) (t : Fin 32) : FVec F S64x64 .f32 :=
  shapeCast S64x64 (extractStridedSlice S1x64x64 ![t.val, 0, 0] v9 (slices_step t)) shapeCasts_S1x64x64_S64x64

/-- The inner products of the vectors of time step `t` with one another. -/
def gram (v9 : FVec F S32x64x64 .f32) (t : Fin 32) : FVec F S64x64 .f32 :=
  matmul dot_S64x64_S64x64_S64x64_1_1_0_0_n_n none (rows v9 t) (rows v9 t) (constant S64x64 .f32 0x00000000#32)

/-- The inner products of all 32 time steps side by side. -/
def sims (v9 : FVec F S32x64x64 .f32) : FVec F S64x2048 .f32 :=
  concatenate S64x2048 1 [⟨S64x64, gram v9 0⟩, ⟨S64x64, gram v9 1⟩, ⟨S64x64, gram v9 2⟩, ⟨S64x64, gram v9 3⟩,
    ⟨S64x64, gram v9 4⟩, ⟨S64x64, gram v9 5⟩, ⟨S64x64, gram v9 6⟩, ⟨S64x64, gram v9 7⟩,
    ⟨S64x64, gram v9 8⟩, ⟨S64x64, gram v9 9⟩, ⟨S64x64, gram v9 10⟩, ⟨S64x64, gram v9 11⟩,
    ⟨S64x64, gram v9 12⟩, ⟨S64x64, gram v9 13⟩, ⟨S64x64, gram v9 14⟩, ⟨S64x64, gram v9 15⟩,
    ⟨S64x64, gram v9 16⟩, ⟨S64x64, gram v9 17⟩, ⟨S64x64, gram v9 18⟩, ⟨S64x64, gram v9 19⟩,
    ⟨S64x64, gram v9 20⟩, ⟨S64x64, gram v9 21⟩, ⟨S64x64, gram v9 22⟩, ⟨S64x64, gram v9 23⟩,
    ⟨S64x64, gram v9 24⟩, ⟨S64x64, gram v9 25⟩, ⟨S64x64, gram v9 26⟩, ⟨S64x64, gram v9 27⟩,
    ⟨S64x64, gram v9 28⟩, ⟨S64x64, gram v9 29⟩, ⟨S64x64, gram v9 30⟩, ⟨S64x64, gram v9 31⟩]
    concatenates_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x2048_d1

/-- The array with the entries that pair a vector with itself replaced by −30. -/
def offDiag (s : FVec F S64x2048 .f32) : FVec F S64x2048 .f32 :=
  select (cmpi .eq (iota .tc S64x2048 32 [0] iota_S64x2048_d0_w32)
      (andi (iota .tc S64x2048 32 [1] iota_S64x2048_d1_w32) (broadcast S64x2048 63#32)))
    (broadcast S64x2048 (Scalar.ofBits .f32 0xC1F00000#32)) s

/-- The greatest entry of each column. -/
def colMax (w : FVec F S64x2048 .f32) : FVec F S1x2048 .f32 :=
  shapeCast S1x2048 (multiReduction .maximumf [0] S2048 w 0xFF800000#32 reduces_S64x2048_S2048 (.inl rfl) rfl) shapeCasts_S2048_S1x2048

/-- The array with the greatest entry of each column replaced by −30. -/
def drop (w : FVec F S64x2048 .f32) : FVec F S64x2048 .f32 :=
  select (cmpf .oge w (broadcastTo S64x2048 (colMax w) broadcasts_S1x2048_S64x2048))
    (broadcast S64x2048 (Scalar.ofBits .f32 0xC1F00000#32)) w

/-- The sum of the exponentials of each column. -/
def expSum (s : FVec F S64x2048 .f32) : FVec F S1x2048 .f32 :=
  shapeCast S1x2048 (multiReduction .add [0] S2048 (exp s) 0x00000000#32 reduces_S64x2048_S2048 (.inl rfl) rfl) shapeCasts_S2048_S1x2048

/-- Half the softmax of each column where the entry is kept, zero elsewhere: an entry is kept when it is no less than
    `kth`, the last one kept, and no less than the threshold's logarithm above the logarithm of the sum. -/
def keep (s : FVec F S64x2048 .f32) (kth : FVec F S1x2048 .f32) : FVec F S64x2048 .f32 :=
  select
    (cmpf .oge s (broadcastTo S64x2048
      (maximumf kth (addf (log (expSum s)) (broadcast S1x2048 (Scalar.log (Scalar.ofBits .f32 0x38D1B717#32)))))
      broadcasts_S1x2048_S64x2048))
    (mulf (exp s) (broadcastTo S64x2048 (divf (broadcast S1x2048 (Scalar.ofBits .f32 0x3F000000#32)) (expSum s))
      broadcasts_S1x2048_S64x2048))
    (broadcast S64x2048 (Scalar.ofBits .f32 0x00000000#32))

/-- The identity matrix. -/
def eye : FVec F S64x64 .f32 :=
  sitofp .f32 (extui 32 (cmpi .eq (addi (iota .tc S64x64 32 [0] iota_S64x64_d0_w32) (broadcast S64x64 0#32))
    (iota .tc S64x64 32 [1] iota_S64x64_d1_w32)) natLt_1_32)

/-- The kept array turned round by a product with the identity, plus its own transpose within each time step. -/
def sym (w : FVec F S64x2048 .f32) : FVec F S1x32x64x64 .f32 :=
  have v240 : FVec F S32x64x64 .f32 := shapeCast S32x64x64
    (matmul dot_S64x2048_S64x64_S2048x64_0_0_1_1_n_n none w eye (constant S2048x64 .f32 0x00000000#32)) shapeCasts_S2048x64_S32x64x64
  shapeCast S1x32x64x64 (addf v240 (transpose S32x64x64 [0, 2, 1] v240 transposes_S32x64x64_p0_2_1_S32x64x64)) shapeCasts_S32x64x64_S1x32x64x64

/-- What the kernel stores for one chunk, of the chunk loaded. -/
def chunk (v0 : Vec F S1x64x32x64 .f32) : FVec F S1x32x64x64 .f32 :=
  sym (keep (sims (unit v0))
    (colMax (drop (drop (drop (drop (drop (drop (offDiag (sims (unit v0)))))))))))

set_option maxRecDepth 16384 in
/-- The block that a grid point writes: its eight chunks, each the same function of what the chunk loads. -/
theorem out_eq (x0 : Vec F S1x64x256x64 .f32) :
    out0_1 x0 = View.canon [⟨r0_15, chunk (View.ld x0 r0_14)⟩, ⟨r0_13, chunk (View.ld x0 r0_12)⟩,
      ⟨r0_11, chunk (View.ld x0 r0_10)⟩, ⟨r0_9, chunk (View.ld x0 r0_8)⟩, ⟨r0_7, chunk (View.ld x0 r0_6)⟩,
      ⟨r0_5, chunk (View.ld x0 r0_4)⟩, ⟨r0_3, chunk (View.ld x0 r0_2)⟩, ⟨r0_1, chunk (View.ld x0 r0_0)⟩] := rfl

end Cert.KernelIdeal.Chunk

end
-- ==== Proof.Spec.lean ====
/- What the kernel computes for one time step, as plain functions of its 64 vectors of 64 coordinates over the
   extended reals. -/
module

public import Idealize.ShloMosaic.Lib.Pointwise

@[expose] public section

noncomputable section

namespace Cert.Spec

open Idealize.ShloMosaic

/-- The temperature's pattern, read. -/
def tau : EReal := Ideal.ofBits .f32 0x3DCCCCCD#32

/-- The least probability's pattern, read. -/
def thr : EReal := Ideal.ofBits .f32 0x38D1B717#32

/-- The value that stands for a removed entry. -/
def gone : EReal := Ideal.ofBits .f32 0xC1F00000#32

/-- One half. -/
def half : EReal := Ideal.ofBits .f32 0x3F000000#32

/-- Coordinate `d` of vector `n`, scaled by the reciprocal root of the vector's sum of squares times the temperature. -/
def scaled (X : Fin 64 → Fin 64 → EReal) (n d : Fin 64) : EReal :=
  X n d * Ideal.rsqrt (∑ k : Fin 64, X n k * X n k * tau)

/-- The inner product of scaled vectors `m` and `n`. -/
def sim (X : Fin 64 → Fin 64 → EReal) (m n : Fin 64) : EReal := ∑ d : Fin 64, scaled X m d * scaled X n d

/-- A column with the entry at `n` removed. -/
def without (n : Fin 64) (s : Fin 64 → EReal) : Fin 64 → EReal := fun m => if m = n then gone else s m

/-- A column with its greatest entries removed. -/
def dropMax (w : Fin 64 → EReal) : Fin 64 → EReal := fun m => if Finset.univ.sup w ≤ w m then gone else w m

/-- The eighth greatest entry of a column whose entry at `n` is the greatest. -/
def eighth (n : Fin 64) (s : Fin 64 → EReal) : EReal :=
  Finset.univ.sup (dropMax (dropMax (dropMax (dropMax (dropMax (dropMax (without n s)))))))

/-- The sum of a column's exponentials. -/
def expSum (s : Fin 64 → EReal) : EReal := ∑ m : Fin 64, Ideal.exp (s m)

/-- Half a column's softmax at `m` where the entry is among the kept, zero elsewhere. -/
def kept (n : Fin 64) (s : Fin 64 → EReal) (m : Fin 64) : EReal :=
  if max (eighth n s) (Ideal.log (expSum s) + Ideal.log thr) ≤ s m then Ideal.exp (s m) * Ideal.div half (expSum s) else 0

/-- The block of the result for one time step. -/
def block (X : Fin 64 → Fin 64 → EReal) (n m : Fin 64) : EReal :=
  kept n (fun k => sim X k n) m + kept m (fun k => sim X k m) n

end Cert.Spec

end
-- ==== Proof.ChunkAt.lean ====
/- The chunk's operations read at one element, over the extended reals. -/
module

public import proofs.«01_k».proof.Proof.Chunk
public import proofs.«01_k».proof.Proof.Spec

@[expose] public section

set_option maxRecDepth 16384

noncomputable section

namespace Cert.KernelIdeal.Chunk

open Cert.KernelIdeal Cert.KernelIdeal.Gen Idealize.ShloMosaic Idealize.SL.Sem

/-- Column `t * 64 + n` of the side-by-side array: vector `n` of time step `t`. -/
def col (t : Fin 32) (n : Fin 64) : Fin 2048 := ⟨t.val * 64 + n.val, by omega⟩

/-- The pattern of −∞ is the least extended real. -/
theorem ofBits_neg_inf : Ideal.ofBits .f32 0xFF800000#32 = ⊥ := by
  simp [Ideal.ofBits, Ideal.ieee]

/-- A scaled vector's coordinate: the loaded one times the reciprocal root of the scaled sum of squares. -/
theorem unit_apply (v0 : FVec Ideal S1x64x32x64 .f32) (t : Fin 32) (n d : Fin 64) :
    unit v0 (ix3 t n d) = v0 (ix4 0 n t d) * Ideal.rsqrt (∑ k : Fin 64, v0 (ix4 0 n t k) * v0 (ix4 0 n t k) * Ideal.ofBits .f32 0x3DCCCCCD#32) := by
  pointwise [unit]

/-- A time step's vectors, read. -/
theorem rows_apply (v9 : FVec Ideal S32x64x64 .f32) (t : Fin 32) (n d : Fin 64) :
    rows v9 t (ix2 n d) = v9 (ix3 t n d) := by
  pointwise [rows]

/-- An inner product of two vectors of one time step. -/
theorem gram_apply (v9 : FVec Ideal S32x64x64 .f32) (t : Fin 32) (m n : Fin 64) :
    gram v9 t (ix2 m n) = ∑ d : Fin 64, v9 (ix3 t m d) * v9 (ix3 t n d) := by
  pointwise [gram]
  simp only [rows_apply]

/-- The side-by-side array at a time step's column is that time step's inner product. -/
theorem sims_apply (v9 : FVec Ideal S32x64x64 .f32) (t : Fin 32) (m n : Fin 64) :
    sims v9 (ix2 m (col t n)) = gram v9 t (ix2 m n) := by
  have h := concatenates_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x64_S64x2048_d1
  refine concatenate_ofFn_apply (t := S64x2048) (s₁ := S64x64) 1 (gram v9) h rfl 64 rfl _ t ?_ _ ?_ ?_
  · simp [col, ix2]; omega
  · simp [col, ix2]; omega
  · intro b hb
    fin_cases b
    · rfl
    · exact absurd rfl hb

/-- The entry that pairs a vector with itself is −30, the others stand. -/
theorem offDiag_apply (s : FVec Ideal S64x2048 .f32) (t : Fin 32) (m n : Fin 64) :
    offDiag s (ix2 m (col t n)) = if m = n then Ideal.ofBits .f32 0xC1F00000#32 else s (ix2 m (col t n)) := by
  pointwise [offDiag]
  have h : (BitVec.ofNat 32 m.val = IntOp.andi (BitVec.ofNat 32 (col t n).val) 63#32) ↔ m = n := by
    have hn : (BitVec.ofNat 32 (col t n).val &&& 63#32).toNat = n.val := by
      rw [BitVec.toNat_and, BitVec.toNat_ofNat]
      have : (63#32).toNat = 2 ^ 6 - 1 := by decide
      rw [this, Nat.and_two_pow_sub_one_eq_mod]
      simp only [col]
      omega
    constructor
    · intro e
      have := congrArg BitVec.toNat e
      rw [show IntOp.andi (BitVec.ofNat 32 (col t n).val) 63#32 = BitVec.ofNat 32 (col t n).val &&& 63#32 from rfl, hn,
        BitVec.toNat_ofNat] at this
      apply Fin.ext
      omega
    · rintro rfl
      apply BitVec.eq_of_toNat_eq
      rw [show IntOp.andi (BitVec.ofNat 32 (col t m).val) 63#32 = BitVec.ofNat 32 (col t m).val &&& 63#32 from rfl, hn,
        BitVec.toNat_ofNat]
      omega
  by_cases e : m = n
  · rw [if_pos e, h.2 e]
    simp [IntOp.cmpi, Scalar.select]
  · rw [if_neg e]
    have hb : (BitVec.ofNat 32 m.val == IntOp.andi (BitVec.ofNat 32 (col t n).val) 63#32) = false :=
      beq_eq_false_iff_ne.2 fun k => e (h.1 k)
    simp [IntOp.cmpi, Scalar.select, hb]

/-- The greatest entry of a column. -/
theorem colMax_apply (w : FVec Ideal S64x2048 .f32) (c : Fin 2048) :
    colMax w (ix2 0 c) = Finset.univ.sup fun m : Fin 64 => w (ix2 m c) := by
  pointwise [colMax]
  rw [ofBits_neg_inf]
  rfl

/-- The sum of a column's exponentials. -/
theorem expSum_apply (w : FVec Ideal S64x2048 .f32) (c : Fin 2048) :
    expSum w (ix2 0 c) = ∑ m : Fin 64, Ideal.exp (w (ix2 m c)) := by
  pointwise [expSum]

/-- An entry no less than its column's greatest becomes −30, the others stand. -/
theorem drop_apply (w : FVec Ideal S64x2048 .f32) (c : Fin 2048) (m : Fin 64) :
    drop w (ix2 m c) = if colMax w (ix2 0 c) ≤ w (ix2 m c) then Ideal.ofBits .f32 0xC1F00000#32 else w (ix2 m c) := by
  pointwise [drop]

/-- What is kept of an entry. -/
theorem keep_apply (s : FVec Ideal S64x2048 .f32) (kth : FVec Ideal S1x2048 .f32) (c : Fin 2048) (m : Fin 64) :
    keep s kth (ix2 m c) =
      if max (kth (ix2 0 c)) (Ideal.log (expSum s (ix2 0 c)) + Ideal.log (Ideal.ofBits .f32 0x38D1B717#32)) ≤ s (ix2 m c)
      then Ideal.exp (s (ix2 m c)) * Ideal.div (Ideal.ofBits .f32 0x3F000000#32) (expSum s (ix2 0 c)) else 0 := by
  pointwise [keep]
  rfl

/-- The identity matrix, read. -/
theorem eye_apply (m n : Fin 64) : eye (F := Ideal) (ix2 m n) = if m = n then 1 else 0 := by
  pointwise [eye]
  have h : (BitVec.ofNat 32 m.val = BitVec.ofNat 32 n.val) ↔ m = n := by
    constructor
    · intro e
      have := congrArg BitVec.toNat e
      rw [BitVec.toNat_ofNat, BitVec.toNat_ofNat] at this
      apply Fin.ext
      omega
    · rintro rfl
      rfl
  rw [show IntOp.addi (BitVec.ofNat 32 m.val) 0#32 = BitVec.ofNat 32 m.val from BitVec.add_zero _]
  by_cases e : m = n
  · rw [if_pos e, h.2 e]
    simp [IntOp.cmpi, FloatOps.sitofp]
  · rw [if_neg e]
    have hb : (BitVec.ofNat 32 m.val == BitVec.ofNat 32 n.val) = false :=
      beq_eq_false_iff_ne.2 fun k => e (h.1 k)
    simp [IntOp.cmpi, FloatOps.sitofp, hb]

/-- The product with the identity moves the columns into rows, and each time step gains its transpose. -/
theorem sym_apply (w : FVec Ideal S64x2048 .f32) (t : Fin 32) (m n : Fin 64) :
    sym w (ix4 0 t n m) = w (ix2 m (col t n)) + w (ix2 n (col t m)) := by
  pointwise [sym]
  simp only [eye_apply, mul_ite, mul_one, mul_zero, Finset.sum_ite_eq', Finset.mem_univ, if_true]
  rfl

/-- The vectors of time step `t` of a loaded chunk. -/
def vecs (v0 : FVec Ideal S1x64x32x64 .f32) (t : Fin 32) : Fin 64 → Fin 64 → EReal := fun n d => v0 (ix4 0 n t d)

/-- The similarity of two vectors of one time step. -/
theorem sims_unit (v0 : FVec Ideal S1x64x32x64 .f32) (t : Fin 32) (m n : Fin 64) :
    sims (F := Ideal) (unit v0) (ix2 m (col t n)) = Spec.sim (vecs v0 t) m n := by
  rw [sims_apply, gram_apply]
  simp only [unit_apply]
  rfl

/-- A column with its greatest entry dropped, as a function of the column. -/
theorem drop_col (w : FVec Ideal S64x2048 .f32) (c : Fin 2048) :
    (fun m : Fin 64 => drop w (ix2 m c)) = Spec.dropMax fun m => w (ix2 m c) := by
  funext m
  rw [drop_apply, colMax_apply]
  rfl

/-- A column of the kept array, as a function of the column of similarities. -/
theorem keep_col (s : FVec Ideal S64x2048 .f32) (t : Fin 32) (n m : Fin 64) :
    keep s (colMax (drop (drop (drop (drop (drop (drop (offDiag s)))))))) (ix2 m (col t n)) =
      Spec.kept n (fun k => s (ix2 k (col t n))) m := by
  rw [keep_apply, colMax_apply, drop_col, drop_col, drop_col, drop_col, drop_col, drop_col, expSum_apply]
  simp only [offDiag_apply]
  rfl

/-- A chunk's result at one element: the block of its time step. -/
theorem chunk_apply (v0 : FVec Ideal S1x64x32x64 .f32) (t : Fin 32) (n m : Fin 64) :
    chunk (F := Ideal) v0 (ix4 0 t n m) = Spec.block (vecs v0 t) n m := by
  unfold chunk
  rw [sym_apply, keep_col, keep_col]
  simp only [sims_unit]
  rfl

end Cert.KernelIdeal.Chunk

end
-- ==== Proof.Array.lean ====
/- What the kernel's result array holds after the run: at each batch and time step, the block of that step's vectors. -/
module

public import proofs.«01_k».proof.Proof.ChunkAt
public import proofs.«01_k».proof.Proof.Gen.KernelIdeal.Value
public import Idealize.ShloMosaic.Lib.Pipeline.ValueKit

@[expose] public section

set_option maxRecDepth 16384

noncomputable section

namespace Cert.KernelIdeal.Chunk

open Cert.KernelIdeal Cert.KernelIdeal.Gen Idealize.ShloMosaic Idealize.ShloMosaic.TcCoe Idealize.SL.Sem
open Idealize.ShloMosaic.Pipeline (Dat)

/-- One grid point's block of the result, of the block of features it reads. -/
def blockOf (x0 : Vec Ideal S1x64x256x64 .f32) : Vec Ideal S1x256x64x64 .f32 :=
  fun y => Spec.block (fun n d => x0 (ix4 0 n (y 1) d)) (y 2) (y 3)

/-- The whole result, of the whole array of features. -/
def result (x : Vec Ideal S32x64x256x64 .f32) : Vec Ideal S32x256x64x64 .f32 :=
  fun i => Spec.block (fun n d => x (ix4 (i 0) n (i 1) d)) (i 2) (i 3)

/-- The chunk at time offset `o` stores the block's steps from `o` on. -/
theorem chunk_eq_blockOf (x0 : Vec Ideal S1x64x256x64 .f32) (o : ℕ)
    (h1 : ∀ a, (![0, 0, o, 0] : Fin 4 → ℕ) a + S1x64x32x64.size a ≤ S1x64x256x64.size a)
    (h2 : ∀ a, (![0, o, 0, 0] : Fin 4 → ℕ) a + S1x32x64x64.size a ≤ S1x256x64x64.size a) (x : S1x32x64x64.Idx) :
    chunk (F := Ideal) (View.ld x0 (Rect.unit (s := S1x64x256x64) ![0, 0, o, 0] S1x64x32x64.size h1)) x =
      blockOf x0 ((Rect.unit (s := S1x256x64x64) ![0, o, 0, 0] S1x32x64x64.size h2).emb x) := by
  obtain ⟨b, t, n, m, rfl⟩ : ∃ (b : Fin 1) (t : Fin 32) (n m : Fin 64), x = ix4 b t n m :=
    ⟨x 0, x 1, x 2, x 3, eq_ix4 x⟩
  obtain rfl : b = 0 := Subsingleton.elim _ _
  rw [chunk_apply]
  unfold blockOf vecs
  have e2 : (Rect.unit (s := S1x256x64x64) ![0, o, 0, 0] S1x32x64x64.size h2).emb (ix4 0 t n m) 2 = n :=
    Fin.ext (by simp [Rect.emb, Rect.unit, ix4])
  have e3 : (Rect.unit (s := S1x256x64x64) ![0, o, 0, 0] S1x32x64x64.size h2).emb (ix4 0 t n m) 3 = m :=
    Fin.ext (by simp [Rect.emb, Rect.unit, ix4])
  rw [e2, e3]
  congr 1
  funext k d
  show x0 _ = x0 _
  congr 1
  funext a
  apply Fin.ext
  fin_cases a <;> simp [Rect.emb, Rect.unit, Rect.toLoadRect, LoadRect.idx, ix4]

/-- What a grid point leaves in its output buffer is its block of the result. -/
theorem out_eq_blockOf (x0 : Vec Ideal S1x64x256x64 .f32) : out0_1 x0 = blockOf x0 := by
  funext y
  rw [out_eq]
  refine View.canon_apply_of_pieces (blockOf x0) _ ?_ y (cover0_1 _ _ _ _ _ _ _ _ y)
  intro p hp
  simp only [List.mem_cons, List.not_mem_nil, or_false] at hp
  rcases hp with rfl | rfl | rfl | rfl | rfl | rfl | rfl | rfl
  exacts [chunk_eq_blockOf x0 224 _ inb_S1x256x64x64_S1x32x64x64_0_224_0_0,
    chunk_eq_blockOf x0 192 _ inb_S1x256x64x64_S1x32x64x64_0_192_0_0,
    chunk_eq_blockOf x0 160 _ inb_S1x256x64x64_S1x32x64x64_0_160_0_0,
    chunk_eq_blockOf x0 128 _ inb_S1x256x64x64_S1x32x64x64_0_128_0_0,
    chunk_eq_blockOf x0 96 _ inb_S1x256x64x64_S1x32x64x64_0_96_0_0,
    chunk_eq_blockOf x0 64 _ inb_S1x256x64x64_S1x32x64x64_0_64_0_0,
    chunk_eq_blockOf x0 32 _ inb_S1x256x64x64_S1x32x64x64_0_32_0_0,
    chunk_eq_blockOf x0 0 _ inb_S1x256x64x64_S1x32x64x64_0_0_0_0]

variable (m : (ℓ : Loc nD τ sig) → Buf (Elt Ideal) ℓ) (ρ : Dev nD → PrngReg)

/-- Grid point `t` reads and writes batch `t`. -/
theorem idx_point : ∀ t : Fin cfg0.N, win0_0.index t = ![t.val, 0, 0, 0] ∧ win0_1.index t = ![t.val, 0, 0, 0] :=
  (by decide +kernel : ∀ t : Fin grid0.N, win0_0.index t = ![t.val, 0, 0, 0] ∧ win0_1.index t = ![t.val, 0, 0, 0])

/-- The kernel's result array after the run. -/
theorem final (c : Dev nD) :
    (dats m 0 c).arrAt 1 cfg0.N = result (m ((c : Thread nD τ).loc main_arg0)) := by
  refine (dats m 0 c).arrAt_eq_of_covers 1 _ (by decide +kernel) fun t hf y => ?_
  blk_simp
  rw [after0_1, out_eq_blockOf]
  obtain ⟨e0, e1⟩ := idx_point t
  have h1 : (win0_1.blk t).view.emb y 1 = y 1 := by
    apply Fin.ext
    blk_simp [e1]
  have h2 : (win0_1.blk t).view.emb y 2 = y 2 := by
    apply Fin.ext
    blk_simp [e1]
  have h3 : (win0_1.blk t).view.emb y 3 = y 3 := by
    apply Fin.ext
    blk_simp [e1]
  unfold blockOf result
  rw [h2, h3]
  congr 1
  funext k d
  blk_ext [iblk, e0, e1]

/-- The kernel's run, with what its result array holds. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Chunk

end
-- ==== Proof.RefSpec.lean ====
/- What the reference computes for one time step before the selection: the probabilities, as plain functions of the
   step's 64 vectors of 64 coordinates over the extended reals. -/
module

public import proofs.«01_k».proof.Proof.Spec

@[expose] public section

noncomputable section

namespace Cert.Spec

open Idealize.ShloMosaic

/-- The least norm's pattern, read. -/
def eps : EReal := Ideal.ofBits .f32 0x2B8CBCCC#32

/-- The norm of vector `n`. -/
def norm (X : Fin 64 → Fin 64 → EReal) (n : Fin 64) : EReal := Ideal.sqrt (∑ k : Fin 64, X n k * X n k)

/-- Coordinate `d` of vector `n` over its norm. -/
def normed (X : Fin 64 → Fin 64 → EReal) (n d : Fin 64) : EReal := Ideal.div (X n d) (max (norm X n) eps)

/-- The similarity of vectors `n` and `m` over the temperature. -/
def logit (X : Fin 64 → Fin 64 → EReal) (n m : Fin 64) : EReal :=
  Ideal.div (∑ d : Fin 64, normed X n d * normed X m d) tau

/-- The exponential of a logit less its row's greatest. -/
def expo (X : Fin 64 → Fin 64 → EReal) (n m : Fin 64) : EReal :=
  Ideal.exp (logit X n m - Finset.univ.sup fun k => logit X n k)

/-- The softmax of row `n` at `m`. -/
def prob (X : Fin 64 → Fin 64 → EReal) (n m : Fin 64) : EReal :=
  Ideal.div (expo X n m) (∑ k : Fin 64, expo X n k)

/-- The vectors of flattened time step `β`: batch `β / 256`, time step `β % 256`. -/
def stepVecs (x : (⟨4, ![32, 64, 256, 64]⟩ : Shape).Idx → EReal) (β : Fin 8192) (n d : Fin 64) : EReal :=
  x (ix4 ⟨β.val / 256, by omega⟩ n ⟨β.val % 256, by omega⟩ d)

/-- The pattern of −∞ is the least extended real. -/
theorem ofBits_neg_inf : Ideal.ofBits .f32 0xFF800000#32 = ⊥ := by
  simp [Ideal.ofBits, Ideal.ieee]

end Cert.Spec

end
-- ==== Proof.Chain.lean ====
/- The arrays of probabilities: the operations that the reference and the precondition share, from the features to the
   softmax, as functions of the features, and each read at one element. -/
module

public import proofs.«01_k».proof.Proof.RefSpec
public import proofs.«01_k».proof.Proof.Gen.ReferenceIdeal

@[expose] public section

set_option maxRecDepth 16384

noncomputable section

namespace Cert.Chain

open Cert.ReferenceIdeal Cert.ReferenceIdeal.Gen Idealize.ShloMosaic

/-- The features with the batch and the time step flattened into one leading axis. -/
def flat (x : FVec Ideal S32x64x256x64 .f32) : FVec Ideal S8192x64x64 .f32 :=
  shapeCast S8192x64x64 (transpose S32x256x64x64 [0, 2, 1, 3] x transposes_S32x64x256x64_S32x256x64x64_0_2_1_3)
    shapeCasts_S32x256x64x64_S8192x64x64

/-- The norms of the vectors of a flattened array. -/
def norms (f : FVec Ideal S8192x64x64 .f32) : FVec Ideal S8192x64x1 .f32 :=
  Host.sqrt (broadcastInDim S8192x64x1 ![0, 1] bcast_S8192x64_S8192x64x1_0_1
    (Host.reduceAdd (mulf f f) (constant S_ .f32 0x00000000#32) reducesTo_S8192x64x64_S8192x64_d2 h_S_))

/-- Each vector over its norm, the norm bounded below. -/
def normed (f : FVec Ideal S8192x64x64 .f32) : FVec Ideal S8192x64x64 .f32 :=
  Host.divf f (broadcastInDim S8192x64x64 ![0, 1, 2] bcast_S8192x64x1_S8192x64x64_0_1_2
    (maximumf (norms f) (broadcastInDim S8192x64x1 ![] bcast_S_S8192x64x1 (constant S_ .f32 0x2B8CBCCC#32))))

/-- The inner products over the temperature. -/
def logits (g : FVec Ideal S8192x64x64 .f32) : FVec Ideal S8192x64x64 .f32 :=
  Host.divf (Host.dotGeneral dot_S8192x64x64_S8192x64x64_S8192x64x64_2_2_1_1_0_0 none g g)
    (broadcastInDim S8192x64x64 ![] bcast_S_S8192x64x64 (constant S_ .f32 0x3DCCCCCD#32))

/-- The greatest logit of each row, in every place of the row. -/
def rowMax (a : FVec Ideal S8192x64x64 .f32) : FVec Ideal S8192x64x64 .f32 :=
  broadcastInDim S8192x64x64 ![0, 1, 2] bcast_S8192x64x1_S8192x64x64_0_1_2
    (broadcastInDim S8192x64x1 ![0, 1] bcast_S8192x64_S8192x64x1_0_1
      (maximumf (broadcastInDim S8192x64 ![] bcast_S_S8192x64 (constant S_ .f32 0xFF800000#32))
        (Host.reduce FloatOps.maximumf a (constant S_ .f32 0xFF800000#32) reducesTo_S8192x64x64_S8192x64_d2 h_S_)))

/-- The exponentials of the logits less their row's greatest. -/
def expos (a : FVec Ideal S8192x64x64 .f32) : FVec Ideal S8192x64x64 .f32 := Host.exp (subf a (rowMax a))

/-- Each entry over its row's sum. -/
def overSum (e : FVec Ideal S8192x64x64 .f32) : FVec Ideal S8192x64x64 .f32 :=
  Host.divf e (broadcastInDim S8192x64x64 ![0, 1, 2] bcast_S8192x64x1_S8192x64x64_0_1_2
    (broadcastInDim S8192x64x1 ![0, 1] bcast_S8192x64_S8192x64x1_0_1
      (Host.reduceAdd e (constant S_ .f32 0x00000000#32) reducesTo_S8192x64x64_S8192x64_d2 h_S_)))

/-- The probabilities. -/
def probs (x : FVec Ideal S32x64x256x64 .f32) : FVec Ideal S8192x64x64 .f32 :=
  overSum (expos (logits (normed (flat x))))

/-- The flattened features, read. -/
theorem flat_apply (x : FVec Ideal S32x64x256x64 .f32) (β : Fin 8192) (n d : Fin 64) :
    flat x (ix3 β n d) = Spec.stepVecs x β n d := by
  pointwise [flat]
  rfl

/-- A norm, read. -/
theorem norms_apply (x : FVec Ideal S32x64x256x64 .f32) (β : Fin 8192) (n : Fin 64) :
    norms (flat x) (ix3 β n 0) = Spec.norm (Spec.stepVecs x β) n := by
  pointwise [norms]
  simp only [flat_apply]
  rfl

/-- A normalized coordinate, read. -/
theorem normed_apply (x : FVec Ideal S32x64x256x64 .f32) (β : Fin 8192) (n d : Fin 64) :
    normed (flat x) (ix3 β n d) = Spec.normed (Spec.stepVecs x β) n d := by
  pointwise [normed]
  simp only [flat_apply, norms_apply]
  rfl

/-- A logit, read. -/
theorem logits_apply (x : FVec Ideal S32x64x256x64 .f32) (β : Fin 8192) (n m : Fin 64) :
    logits (normed (flat x)) (ix3 β n m) = Spec.logit (Spec.stepVecs x β) n m := by
  pointwise [logits]
  simp only [normed_apply]
  rfl

/-- The greatest of a row of any number of stacked matrices. -/
theorem reduceMax_apply {N : ℕ} (a : FVec Ideal ⟨3, ![N, 64, 64]⟩ .f32)
    (h : (⟨3, ![N, 64, 64]⟩ : Shape).ReducesTo [2] ⟨2, ![N, 64]⟩) (hu : 0 < S_.numel) (β : Fin N) (n : Fin 64) :
    Host.reduce FloatOps.maximumf a (constant (F := Ideal) S_ .f32 0xFF800000#32) h hu (ix2 β n)
      = Finset.univ.sup fun k : Fin 64 => a (ix3 β n k) := by
  pointwise
  rw [Spec.ofBits_neg_inf]
  rfl

/-- One value per row, bounded below by a constant and spread over the row. -/
theorem spread_apply (y : FVec Ideal S8192x64 .f32) (β : Fin 8192) (n m : Fin 64) :
    (broadcastInDim S8192x64x64 ![0, 1, 2] bcast_S8192x64x1_S8192x64x64_0_1_2
      (broadcastInDim S8192x64x1 ![0, 1] bcast_S8192x64_S8192x64x1_0_1
        (maximumf (broadcastInDim S8192x64 ![] bcast_S_S8192x64 (constant S_ .f32 0xFF800000#32)) y))) (ix3 β n m)
      = y (ix2 β n) := by
  pointwise
  rw [Spec.ofBits_neg_inf, max_eq_right bot_le]
  try rfl

/-- The greatest of a row, read. -/
theorem rowMax_apply (a : FVec Ideal S8192x64x64 .f32) (β : Fin 8192) (n m : Fin 64) :
    rowMax a (ix3 β n m) = Finset.univ.sup fun k : Fin 64 => a (ix3 β n k) := by
  unfold rowMax
  rw [spread_apply]
  exact reduceMax_apply a reducesTo_S8192x64x64_S8192x64_d2 h_S_ β n

/-- An exponential, read. -/
theorem expos_apply (x : FVec Ideal S32x64x256x64 .f32) (β : Fin 8192) (n m : Fin 64) :
    expos (logits (normed (flat x))) (ix3 β n m) = Spec.expo (Spec.stepVecs x β) n m := by
  pointwise [expos]
  simp only [rowMax_apply, logits_apply]
  rfl

/-- A probability, read. -/
theorem probs_apply (x : FVec Ideal S32x64x256x64 .f32) (β : Fin 8192) (n m : Fin 64) :
    probs x (ix3 β n m) = Spec.prob (Spec.stepVecs x β) n m := by
  pointwise [probs, overSum]
  simp only [expos_apply]
  rfl

end Cert.Chain

end
-- ==== Proof.TopK.lean ====
/- The top-k of a row: position `j` of the result holds the value, and the index, of the row's entry of rank `j`. -/
module

public import proofs.«01_k».proof.Proof.Spec
public import proofs.«01_k».proof.Proof.RefSpec
public import proofs.«01_k».proof.Proof.Gen.ReferenceIdeal
public import Idealize.ShloMosaic.Lib.SortFacts

@[expose] public section

set_option maxRecDepth 16384

noncomputable section

namespace Cert.Spec

open Idealize.ShloMosaic

/-- Does entry `k` of a row come before entry `k'`: is it greater? -/
def before (p : Fin 64 → EReal) (k k' : Fin 64) : Bool :=
  FloatOps.cmpfTotal (F := Ideal) (φ := .f32) .gt (p k) (p k') == 1#1

/-- The place in the row of its entry of rank `j`, greatest first. -/
def rank (p : Fin 64 → EReal) : Fin 64 → Fin 64 := sortedFrom (before p)

/-- Coming before is being greater. -/
theorem before_iff (p : Fin 64 → EReal) (k k' : Fin 64) : before p k k' = true ↔ p k' < p k := by
  unfold before
  show (BitVec.ofBool (decide (p k' < p k)) == 1#1) = true ↔ _
  by_cases h : p k' < p k <;> simp [h]

/-- No two ranks are the same place. -/
theorem rank_injective (p : Fin 64 → EReal) : Function.Injective (rank p) := sortedFrom_injective _

/-- Every place has a rank. -/
theorem rank_surjective (p : Fin 64 → EReal) : Function.Surjective (rank p) := sortedFrom_surjective _

/-- The entries by rank don't increase. -/
theorem rank_antitone (p : Fin 64 → EReal) {i j : Fin 64} (h : i < j) : p (rank p j) ≤ p (rank p i) := by
  have hf : ∀ a b, before p a b = false ↔ p a ≤ p b := fun a b => by
    rw [← Bool.not_eq_true, before_iff, not_lt]
  refine (hf _ _).1 (sortedFrom_noInversion (before p) (before p) ?_ (fun _ _ h => h) ?_ i j h)
  · intro a b hab
    exact (hf _ _).2 (le_of_lt ((before_iff p a b).1 hab))
  · intro a b c hab hbc
    exact (hf _ _).2 (((hf _ _).1 hab).trans ((hf _ _).1 hbc))

/-- Is place `m` one of the row's eight greatest? -/
def Top (p : Fin 64 → EReal) (m : Fin 64) : Prop := ∃ j : Fin 8, rank p (j.castLE (by decide)) = m

/-- What the reference puts at a place of a row: the probability there when it is one of the eight greatest, and
    zero elsewhere. -/
def placed (p : Fin 64 → EReal) (m : Fin 64) : EReal := open Classical in if Top p m then p m else 0

/-- What is left of it: what exceeds the threshold. -/
def picked (p : Fin 64 → EReal) (m : Fin 64) : EReal := if thr < placed p m then placed p m else 0

/-- What the reference computes of the vectors of one time step: the mean of the picked probabilities and their
    transpose. -/
def refBlock (X : Fin 64 → Fin 64 → EReal) (n m : Fin 64) : EReal :=
  Ideal.div (picked (prob X n) m + picked (prob X m) n) (Ideal.ofBits .f32 0x40000000#32)

end Cert.Spec

namespace Cert.Chain

open Cert.ReferenceIdeal Idealize.ShloMosaic

/-- An index moved along the last axis. -/
theorem along_last (β : Fin 8192) (n k k' : Fin 64) :
    Shape.Idx.along (s := S8192x64x64) (ix3 β n k) 2 k' = ix3 β n k' := by
  funext a
  fin_cases a <;> rfl

/-- A corner's index among the whole array's. -/
theorem corner {K : ℕ} (hK : K ≤ 64) (h : S8192x64x64.Slices (fun _ => 0) ⟨3, ![8192, 64, K]⟩) (β : Fin 8192) (n : Fin 64)
    (j : Fin K) {α : Type} (y : S8192x64x64.Idx → α) :
    extractStridedSlice ⟨3, ![8192, 64, K]⟩ (fun _ => 0) y h (ix3 β n j) = y (ix3 β n (j.castLE hK)) := by
  unfold extractStridedSlice
  congr 1
  funext a
  fin_cases a <;> exact Fin.ext (Nat.zero_add _)

/-- The place whose entry a sort of the rows puts at an index. -/
def place (x : FVec Ideal S8192x64x64 .f32) (i : S8192x64x64.Idx) : Fin 64 :=
  sortedFrom (n := 64) (fun k k' => FloatOps.cmpfTotal (F := Ideal) (φ := .f32) .gt
    (x (Shape.Idx.along (s := S8192x64x64) i 2 k)) (x (Shape.Idx.along (s := S8192x64x64) i 2 k')) == 1#1) (i 2)

/-- It is the place of the index's rank in its row. -/
theorem place_apply (x : FVec Ideal S8192x64x64 .f32) (β : Fin 8192) (n k : Fin 64) :
    place x (ix3 β n k) = Spec.rank (fun k => x (ix3 β n k)) k := by
  unfold place
  simp only [along_last]
  rfl

/-- A sort of an array with a second one carried along, by the first. -/
theorem sort2_eq (x : FVec Ideal S8192x64x64 .f32) (y : IVec S8192x64x64 32) :
    Host.sort2 S8192x64x64 2 (fun l r => FloatOps.cmpfTotal .gt l.1 r.1) x y
      = (fun i => x (Shape.Idx.along (s := S8192x64x64) i 2 (place x i)),
          fun i => y (Shape.Idx.along (s := S8192x64x64) i 2 (place x i))) := rfl

/-- The top-k's values, read. -/
theorem topK_values {K : ℕ} (x : FVec Ideal S8192x64x64 .f32)
    (h : S8192x64x64.Slices (fun _ => 0) ⟨3, ![8192, 64, K]⟩) (hK : K ≤ 64) (β : Fin 8192) (n : Fin 64) (j : Fin K) :
    (Host.topK ⟨3, ![8192, 64, K]⟩ 2 (FloatOps.cmpfTotal .gt) x h).1 (ix3 β n j)
      = x (ix3 β n (Spec.rank (fun k => x (ix3 β n k)) (j.castLE hK))) := by
  unfold Host.topK
  dsimp only
  rw [corner hK h, sort2_eq]
  dsimp only
  rw [place_apply, along_last]

/-- The top-k's indices, read. -/
theorem topK_indices {K : ℕ} (x : FVec Ideal S8192x64x64 .f32)
    (h : S8192x64x64.Slices (fun _ => 0) ⟨3, ![8192, 64, K]⟩) (hK : K ≤ 64) (β : Fin 8192) (n : Fin 64) (j : Fin K) :
    (Host.topK ⟨3, ![8192, 64, K]⟩ 2 (FloatOps.cmpfTotal .gt) x h).2 (ix3 β n j)
      = BitVec.ofNat 32 (Spec.rank (fun k => x (ix3 β n k)) (j.castLE hK)).val := by
  unfold Host.topK
  dsimp only
  rw [corner hK h, sort2_eq]
  dsimp only
  rw [place_apply, along_last]
  rfl

end Cert.Chain

end
-- ==== Proof.Scatter.lean ====
/- The scatter: each update written at the element that its three index words name. -/
module

public import proofs.«01_k».proof.Proof.RefSpec
public import proofs.«01_k».proof.Proof.Gen.ReferenceIdeal

@[expose] public section

set_option maxRecDepth 16384

noncomputable section

namespace Cert.Chain

open Cert.ReferenceIdeal Cert.ReferenceIdeal.Gen Idealize.ShloMosaic

section Fold

variable {s si u : Shape} {w : ℕ} {α : Type} (d : ScatterDims s si u) (idx : IVec si w) (upd : u.Idx → α)
  (target : u.Idx → s.Idx) (val : s.Idx → α)

/-- Updates written in any order, each with the value that its target is to hold: an element that is a target holds its
    value, and one that isn't keeps what it held. -/
theorem fold_set (hres : ∀ U, d.resultIdx? U idx = some (target U)) (hupd : ∀ U, upd U = val (target U)) (i : s.Idx)
    (L : List (Fin u.numel)) (x : s.Idx → α) :
    let y := L.foldl (fun r n =>
      match d.resultIdx? (u.rowMajor.symm n) idx with
      | some i => fun i' => if i' = i then (fun _ b => b) (r i) (upd (u.rowMajor.symm n)) else r i'
      | none => r) x
    ((∃ n ∈ L, target (u.rowMajor.symm n) = i) → y i = val i)
      ∧ ((∀ n ∈ L, target (u.rowMajor.symm n) ≠ i) → y i = x i)
      ∧ (x i = val i → y i = val i) := by
  induction L generalizing x with
  | nil => exact ⟨fun ⟨n, h, _⟩ => absurd h List.not_mem_nil, fun _ => rfl, fun h => h⟩
  | cons a L ih =>
    intro y
    have h := ih (fun i' => if i' = target (u.rowMajor.symm a) then upd (u.rowMajor.symm a) else x i')
    have hy : y = L.foldl _ _ := List.foldl_cons ..
    rw [hres] at hy
    rw [hy]
    refine ⟨?_, fun hn => ?_, fun hx => h.2.2 ?_⟩
    · rintro ⟨n, hn, hi⟩
      rcases List.mem_cons.1 hn with rfl | hn
      · refine h.2.2 ?_
        rw [if_pos hi.symm, hupd, hi]
      · exact h.1 ⟨n, hn, hi⟩
    · refine (h.2.1 fun n hm => hn n (List.mem_cons_of_mem _ hm)).trans ?_
      exact if_neg fun e => hn a List.mem_cons_self e.symm
    · split_ifs with e
      · rw [hupd, ← e]
      · exact hx

/-- A scatter that sets, at an element that is a target. -/
theorem scatter_hit (hres : ∀ U, d.resultIdx? U idx = some (target U)) (hupd : ∀ U, upd U = val (target U))
    (x : s.Idx → α) (U : u.Idx) : Host.scatter d (fun _ b => b) x idx upd (target U) = val (target U) :=
  (fold_set d idx upd target val hres hupd (target U) (List.finRange u.numel) x).1
    ⟨u.rowMajor U, List.mem_finRange _, by rw [Equiv.symm_apply_apply]⟩

/-- A scatter that sets, at an element that is no target. -/
theorem scatter_miss (hres : ∀ U, d.resultIdx? U idx = some (target U)) (hupd : ∀ U, upd U = val (target U))
    (x : s.Idx → α) (i : s.Idx) (hi : ∀ U, target U ≠ i) : Host.scatter d (fun _ b => b) x idx upd i = x i :=
  (fold_set d idx upd target val hres hupd i (List.finRange u.numel) x).2.1 fun _ _ => hi _

end Fold

/-- A small number's word, read signed. -/
theorem toInt_word {k : ℕ} (h : k < 8192) : (BitVec.ofNat 32 k).toInt = k := by
  rw [BitVec.toInt_ofNat', Int.bmod_def]
  omega

/-- Where an update lands when its index words are the numbers of an element. -/
theorem lands (idx : IVec S8192x64x8x3 32) (β : Fin 8192) (n m : Fin 64) (j : Fin 8)
    (h0 : idx (ix4 β n j 0) = BitVec.ofNat 32 β.val) (h1 : idx (ix4 β n j 1) = BitVec.ofNat 32 n.val)
    (h2 : idx (ix4 β n j 2) = BitVec.ofNat 32 m.val) :
    scatter_S8192x64x64_S8192x64x8x3_S8192x64x8_n_012_012_3.resultIdx? (ix3 β n j) idx = some (ix3 β n m) := by
  have key : ∀ a, scatter_S8192x64x64_S8192x64x8x3_S8192x64x8_n_012_012_3.start (ix3 β n j) idx a
      + scatter_S8192x64x64_S8192x64x8x3_S8192x64x8_n_012_012_3.window (ix3 β n j) a
      = ((ix3 β n m : S8192x64x64.Idx) a).val := by
    intro a
    fin_cases a
    · refine (add_zero _).trans ?_
      refine (congrArg (fun i => (idx i).toInt) ?_).trans ((congrArg BitVec.toInt h0).trans (toInt_word β.isLt))
      funext b
      fin_cases b <;> rfl
    · refine (add_zero _).trans ?_
      refine (congrArg (fun i => (idx i).toInt) ?_).trans ((congrArg BitVec.toInt h1).trans (toInt_word (by omega)))
      funext b
      fin_cases b <;> rfl
    · refine (add_zero _).trans ?_
      refine (congrArg (fun i => (idx i).toInt) ?_).trans ((congrArg BitVec.toInt h2).trans (toInt_word (by omega)))
      funext b
      fin_cases b <;> rfl
  unfold ScatterDims.resultIdx?
  rw [dif_pos fun a => by
    rw [key]
    exact ⟨Int.natCast_nonneg _, Int.ofNat_lt.2 (Fin.isLt _)⟩]
  congr 1
  funext a
  refine Fin.ext ?_
  show Int.toNat _ = _
  rw [key, Int.toNat_natCast]

end Cert.Chain

end
-- ==== Proof.RefAt.lean ====
/- What the reference computes: its result's array, read at one element. -/
module

public import proofs.«01_k».proof.Proof.Chain
public import proofs.«01_k».proof.Proof.TopK
public import proofs.«01_k».proof.Proof.Scatter
public import proofs.«01_k».proof.Proof.Gen.ReferenceIdeal.Run
public import Idealize.ShloMosaic.Lib.Tactic.CleanTypes

@[expose] public section

set_option maxRecDepth 16384

noncomputable section

namespace Cert.Chain

open Cert.ReferenceIdeal Cert.ReferenceIdeal.Gen Idealize.ShloMosaic

/-- The indices of each update: its time step, its vector and the place that the top-k gave. -/
def words (idx : IVec S8192x64x8 32) : IVec S8192x64x8x3 32 :=
  concatenate S8192x64x8x3 3
    [⟨S8192x64x8x1, broadcastInDim S8192x64x8x1 ![0, 1, 2] bcast_S8192x64x8_S8192x64x8x1_0_1_2
      (broadcastInDim S8192x64x8 ![0, 1, 2] bcast_S8192x1x1_S8192x64x8_0_1_2
        (select (cmpi .slt (broadcastInDim S8192x1x1 ![0] bcast_S8192_S8192x1x1_0 (iotaInDim S8192 32 0))
            (broadcastInDim S8192x1x1 ![] bcast_S_S8192x1x1 (constantI S_ 32 0#32)))
          (addi (broadcastInDim S8192x1x1 ![0] bcast_S8192_S8192x1x1_0 (iotaInDim S8192 32 0))
            (broadcastInDim S8192x1x1 ![] bcast_S_S8192x1x1 (constantI S_ 32 8192#32)))
          (broadcastInDim S8192x1x1 ![0] bcast_S8192_S8192x1x1_0 (iotaInDim S8192 32 0))))⟩,
     ⟨S8192x64x8x1, broadcastInDim S8192x64x8x1 ![0, 1, 2] bcast_S8192x64x8_S8192x64x8x1_0_1_2
      (broadcastInDim S8192x64x8 ![0, 1, 2] bcast_S1x64x1_S8192x64x8_0_1_2
        (select (cmpi .slt (broadcastInDim S1x64x1 ![1] bcast_S64_S1x64x1_1 (iotaInDim S64 32 0))
            (broadcastInDim S1x64x1 ![] bcast_S_S1x64x1 (constantI S_ 32 0#32)))
          (addi (broadcastInDim S1x64x1 ![1] bcast_S64_S1x64x1_1 (iotaInDim S64 32 0))
            (broadcastInDim S1x64x1 ![] bcast_S_S1x64x1 (constantI S_ 32 64#32)))
          (broadcastInDim S1x64x1 ![1] bcast_S64_S1x64x1_1 (iotaInDim S64 32 0))))⟩,
     ⟨S8192x64x8x1, broadcastInDim S8192x64x8x1 ![0, 1, 2] bcast_S8192x64x8_S8192x64x8x1_0_1_2
      (select (cmpi .slt idx (broadcastInDim S8192x64x8 ![] bcast_S_S8192x64x8 (constantI S_ 32 0#32)))
        (addi idx (broadcastInDim S8192x64x8 ![] bcast_S_S8192x64x8 (constantI S_ 32 64#32))) idx)⟩]
    concatenates_S8192x64x8x1_S8192x64x8x1_S8192x64x8x1_S8192x64x8x3_d3

/-- The probabilities at the eight greatest of each row, and zero elsewhere. -/
def placed (P : FVec Ideal S8192x64x64 .f32) : FVec Ideal S8192x64x64 .f32 :=
  Host.scatter scatter_S8192x64x64_S8192x64x8x3_S8192x64x8_n_012_012_3 (fun _ b => b)
    (broadcastInDim S8192x64x64 ![] bcast_S_S8192x64x64 (constant S_ .f32 0x00000000#32))
    (words (Host.topK S8192x64x8 2 (FloatOps.cmpfTotal .gt) P sliceFits_S8192x64x64_S8192x64x8).2)
    (Host.topK S8192x64x8 2 (FloatOps.cmpfTotal .gt) P sliceFits_S8192x64x64_S8192x64x8).1

/-- What exceeds the threshold, and zero for the rest. -/
def above (q : FVec Ideal S8192x64x64 .f32) : FVec Ideal S8192x64x64 .f32 :=
  select (cmpf .ogt q (broadcastInDim S8192x64x64 ![] bcast_S_S8192x64x64 (constant S_ .f32 0x38D1B717#32))) q
    (broadcastInDim S8192x64x64 ![] bcast_S_S8192x64x64 (constant S_ .f32 0x00000000#32))

/-- The mean of each matrix and its transpose, by batch and time step. -/
def mean (a : FVec Ideal S8192x64x64 .f32) : FVec Ideal S32x256x64x64 .f32 :=
  shapeCast S32x256x64x64
    (Host.divf (addf a (transpose S8192x64x64 [0, 2, 1] a transposes_S8192x64x64_S8192x64x64_0_2_1))
      (broadcastInDim S8192x64x64 ![] bcast_S_S8192x64x64 (constant S_ .f32 0x40000000#32)))
    shapeCasts_S8192x64x64_S32x256x64x64

/-- The reference's probabilities are the array above, of its argument. -/
theorem res_main_v23_eq (V0 : Valuation τ sig (Elt Ideal)) :
    Value.res_main_v23 V0 = probs (V0 (Proc.devRef .tc main_arg0)) := rfl

/-- The reference's thresholded array is the one above, of its probabilities. -/
theorem res_main_v54_eq (V0 : Valuation τ sig (Elt Ideal)) :
    Value.res_main_v54 V0 = above (placed (Value.res_main_v23 V0)) := rfl

/-- A small number's word is not negative, so that the reference's wrap leaves it. -/
theorem wrap_word {k : ℕ} (h : k < 8192) (w : BitVec 32) :
    Scalar.select (IntOp.cmpi .slt (BitVec.ofNat 32 k) 0#32) w (BitVec.ofNat 32 k) = BitVec.ofNat 32 k := by
  have h0 : IntOp.cmpi .slt (BitVec.ofNat 32 k) 0#32 = 0#1 := by
    show BitVec.ofBool (BitVec.slt _ _) = _
    have : BitVec.slt (BitVec.ofNat 32 k) 0#32 = false := by
      rw [BitVec.slt, toInt_word h]
      simp
    rw [this]
    rfl
  rw [h0]
  rfl

/-- An update's first index is its time step. -/
theorem words_0 (idx : IVec S8192x64x8 32) (β : Fin 8192) (n : Fin 64) (j : Fin 8) :
    words idx (ix4 β n j 0) = BitVec.ofNat 32 β.val := by
  pointwise [words]
  exact wrap_word β.isLt _

/-- An update's second index is its vector. -/
theorem words_1 (idx : IVec S8192x64x8 32) (β : Fin 8192) (n : Fin 64) (j : Fin 8) :
    words idx (ix4 β n j 1) = BitVec.ofNat 32 n.val := by
  pointwise [words]
  exact wrap_word (by omega) _

/-- An update's third index is the top-k's. -/
theorem words_2 (idx : IVec S8192x64x8 32) (β : Fin 8192) (n : Fin 64) (j : Fin 8) {k : ℕ} (hk : k < 8192)
    (h : idx (ix3 β n j) = BitVec.ofNat 32 k) : words idx (ix4 β n j 2) = BitVec.ofNat 32 k := by
  pointwise [words]
  rw [h]
  exact wrap_word hk _

/-- Where an update of the probabilities goes. -/
def target (P : FVec Ideal S8192x64x64 .f32) (U : S8192x64x8.Idx) : S8192x64x64.Idx :=
  ix3 (U 0) (U 1) (Spec.rank (fun k => P (ix3 (U 0) (U 1) k)) ((U 2).castLE (by decide)))

/-- It lands there. -/
theorem target_lands (P : FVec Ideal S8192x64x64 .f32) (U : S8192x64x8.Idx) :
    scatter_S8192x64x64_S8192x64x8x3_S8192x64x8_n_012_012_3.resultIdx? U
      (words (Host.topK S8192x64x8 2 (FloatOps.cmpfTotal .gt) P sliceFits_S8192x64x64_S8192x64x8).2)
      = some (target P U) := by
  obtain ⟨β, n, j, rfl⟩ : ∃ β n j, U = ix3 β n j := ⟨U 0, U 1, U 2, eq_ix3 U⟩
  exact lands _ β n _ j (words_0 _ β n j) (words_1 _ β n j)
    (words_2 _ β n j (lt_of_lt_of_le (Fin.isLt _) (by decide)) (topK_indices P _ (by decide) β n j))

/-- Its value is the probability there. -/
theorem target_value (P : FVec Ideal S8192x64x64 .f32) (U : S8192x64x8.Idx) :
    (Host.topK S8192x64x8 2 (FloatOps.cmpfTotal .gt) P sliceFits_S8192x64x64_S8192x64x8).1 U = P (target P U) := by
  obtain ⟨β, n, j, rfl⟩ : ∃ β n j, U = ix3 β n j := ⟨U 0, U 1, U 2, eq_ix3 U⟩
  exact topK_values P _ (by decide) β n j

/-- The scattered probabilities, read. -/
theorem placed_apply (P : FVec Ideal S8192x64x64 .f32) (β : Fin 8192) (n m : Fin 64) :
    placed P (ix3 β n m) = Spec.placed (fun k => P (ix3 β n k)) m := by
  unfold Spec.placed
  split_ifs with h
  · obtain ⟨j, rfl⟩ := h
    exact scatter_hit _ _ _ (target P) P (target_lands P) (target_value P) _ (ix3 β n j)
  · refine (scatter_miss _ _ _ (target P) P (target_lands P) (target_value P) _ _ fun U e => h ?_).trans ?_
    · obtain ⟨β', n', j, rfl⟩ : ∃ β n j, U = ix3 β n j := ⟨U 0, U 1, U 2, eq_ix3 U⟩
      have e0 : β' = β := congrFun e 0
      have e1 : n' = n := congrFun e 1
      subst e0 e1
      exact ⟨j, congrFun e 2⟩
    · pointwise

/-- The threshold, read. -/
theorem above_apply (q : FVec Ideal S8192x64x64 .f32) (β : Fin 8192) (n m : Fin 64) :
    above q (ix3 β n m) = if Spec.thr < q (ix3 β n m) then q (ix3 β n m) else 0 := by
  pointwise [above]
  rfl

/-- The mean with the transpose, read. -/
theorem mean_apply (a : FVec Ideal S8192x64x64 .f32) (b : Fin 32) (t : Fin 256) (n m : Fin 64) :
    mean a (ix4 b t n m) = Ideal.div (a (ix3 ⟨b.val * 256 + t.val, by omega⟩ n m)
      + a (ix3 ⟨b.val * 256 + t.val, by omega⟩ m n)) (Ideal.ofBits .f32 0x40000000#32) := by
  pointwise [mean]

/-- The vectors of a time step of a batch. -/
theorem stepVecs_flat (x : FVec Ideal S32x64x256x64 .f32) (b : Fin 32) (t : Fin 256) :
    Spec.stepVecs x ⟨b.val * 256 + t.val, by omega⟩ = fun n d => x (ix4 b n t d) := by
  funext n d
  have hb : (⟨(b.val * 256 + t.val) / 256, by omega⟩ : Fin 32) = b := Fin.ext (by simp only []; omega)
  have ht : (⟨(b.val * 256 + t.val) % 256, by omega⟩ : Fin 256) = t := Fin.ext (by simp only []; omega)
  exact congrArg₂ (fun b t => x (ix4 b n t d)) hb ht

/-- The reference's result, read. -/
theorem result_apply (V0 : Valuation τ sig (Elt Ideal)) (b : Fin 32) (t : Fin 256) (n m : Fin 64) :
    mean (Value.res_main_v54 V0) (ix4 b t n m)
      = Spec.refBlock (fun n d => (V0 (Proc.devRef .tc main_arg0) : FVec Ideal S32x64x256x64 .f32) (ix4 b n t d)) n m := by
  rw [mean_apply, res_main_v54_eq, res_main_v23_eq, ← stepVecs_flat]
  simp only [above_apply, placed_apply, probs_apply]
  rfl

end Cert.Chain

end
-- ==== Proof.PreAt.lean ====
/- What the precondition says of the vectors of each time step. -/
module

public import proofs.«01_k».proof.Proof.Chain
public import proofs.«01_k».proof.Proof.TopK
public import proofs.«01_k».proof.Proof.PreFacts

@[expose] public section

set_option maxRecDepth 16384

noncomputable section

namespace Cert.Spec

open Idealize.ShloMosaic

/-- Each row of probabilities decreases strictly from its second greatest to its ninth, and none of its eight greatest
    is the threshold; each vector's norm reaches the reference's bound. -/
structure TieFree (X : Fin 64 → Fin 64 → EReal) : Prop where
  distinct : ∀ n (j : Fin 7), prob X n (rank (prob X n) ⟨2 + j.val, by omega⟩) < prob X n (rank (prob X n) ⟨1 + j.val, by omega⟩)
  off : ∀ n (j : Fin 8), prob X n (rank (prob X n) (j.castLE (by decide))) ≠ thr
  long : ∀ n, eps ≤ norm X n

end Cert.Spec

namespace Cert.Chain

open Cert.Pre_tie_free Cert.Pre_tie_free.Facts Idealize.ShloMosaic

/-- The nine greatest of each row. -/
def nine (P : FVec Ideal S8192x64x64 .f32) : FVec Ideal S8192x64x9 .f32 :=
  (Host.topK S8192x64x9 2 (FloatOps.cmpfTotal .gt) P sliceFits_S8192x64x64_S8192x64x9).1

/-- Whether the seven from the second on exceed their successors. -/
def distinct (v : FVec Ideal S8192x64x9 .f32) : IVec S8192x64x7 1 :=
  cmpf .ogt (extractStridedSlice S8192x64x7 ![0, 0, 1] v slices_S8192x64x9_S8192x64x7_0_0_1)
    (extractStridedSlice S8192x64x7 ![0, 0, 2] v slices_S8192x64x9_S8192x64x7_0_0_2)

/-- Whether the first eight differ from the threshold. -/
def off (v : FVec Ideal S8192x64x9 .f32) : IVec S8192x64x8 1 :=
  cmpf .une (extractStridedSlice S8192x64x8 ![0, 0, 0] v slices_S8192x64x9_S8192x64x8_0_0_0)
    (broadcastInDim S8192x64x8 ![] bcast_S_S8192x64x8 (constant S_ .f32 0x38D1B717#32))

/-- Whether each norm reaches the bound. -/
def long (r : FVec Ideal S8192x64x1 .f32) : IVec S8192x64 1 :=
  cmpf .oge (shapeCast S8192x64 r shapeCasts_S8192x64x1_S8192x64)
    (broadcastInDim S8192x64 ![] bcast_S_S8192x64 (constant S_ .f32 0x2B8CBCCC#32))

/-- The precondition is these three. -/
theorem fn_eq (x : FVec Ideal S32x64x256x64 .f32) :
    fn (F := Ideal) x
      = andi (andi (Host.reduce IntOp.andi (distinct (nine (probs x))) (constantI S_ 1 1#1)
            reducesTo_S8192x64x7_S8192x64_d2 h_S_)
          (Host.reduce IntOp.andi (off (nine (probs x))) (constantI S_ 1 1#1)
            reducesTo_S8192x64x8_S8192x64_d2 h_S_))
        (long (norms (flat x))) := rfl

/-- A conjunction of two bits holds when both do. -/
theorem andi_one {a b : BitVec 1} (h : IntOp.andi a b = 1#1) : a = 1#1 ∧ b = 1#1 := by
  revert a b
  decide

/-- A conjunction over some places holds only if each of them does. -/
theorem fold_andi {K : ℕ} (f : Fin K → BitVec 1) (S : Finset (Fin K)) (h : S.fold IntOp.andi 1#1 f = 1#1) :
    ∀ k ∈ S, f k = 1#1 := by
  induction S using Finset.induction_on with
  | empty => exact fun k hk => absurd hk (Finset.notMem_empty k)
  | insert a S ha ih =>
    rw [Finset.fold_insert ha] at h
    have h' := andi_one h
    intro k hk
    rcases Finset.mem_insert.1 hk with rfl | hk
    · exact h'.1
    · exact ih h'.2 k hk

/-- A conjunction along the last axis holds in a row only if it does at each place of the row. -/
theorem reduce_andi {N K : ℕ} (y : IVec ⟨3, ![N, 64, K]⟩ 1)
    (hr : (⟨3, ![N, 64, K]⟩ : Shape).ReducesTo [2] ⟨2, ![N, 64]⟩) (hu : 0 < S_.numel) (β : Fin N) (n : Fin 64)
    (h : Host.reduce IntOp.andi y (constantI S_ 1 1#1) hr hu (ix2 β n) = 1#1) (j : Fin K) : y (ix3 β n j) = 1#1 := by
  revert h
  pointwise
  exact fun h => fold_andi _ _ h j (Finset.mem_univ j)

/-- A row of the nine greatest, read. -/
theorem nine_apply (P : FVec Ideal S8192x64x64 .f32) (β : Fin 8192) (n : Fin 64) (j : Fin 9) :
    nine P (ix3 β n j) = P (ix3 β n (Spec.rank (fun k => P (ix3 β n k)) (j.castLE (by decide)))) :=
  topK_values P _ (by decide) β n j

/-- A bit that says whether, when it's one. -/
theorem of_bit {p : Prop} [Decidable p] (h : BitVec.ofBool (decide p) = 1#1) : p := by
  by_contra hp
  rw [decide_eq_false hp] at h
  exact absurd h (by decide)

/-- The first bit, read. -/
theorem distinct_apply (P : FVec Ideal S8192x64x64 .f32) (β : Fin 8192) (n : Fin 64) (j : Fin 7)
    (h : distinct (nine P) (ix3 β n j) = 1#1) :
    P (ix3 β n (Spec.rank (fun k => P (ix3 β n k)) ⟨2 + j.val, by omega⟩))
      < P (ix3 β n (Spec.rank (fun k => P (ix3 β n k)) ⟨1 + j.val, by omega⟩)) := by
  have e1 := nine_apply P β n ⟨1 + j.val, by omega⟩
  have e2 := nine_apply P β n ⟨2 + j.val, by omega⟩
  generalize nine P = v at h e1 e2
  revert h
  pointwise [distinct]
  intro h
  have h' : v (ix3 β n ⟨2 + j.val, by omega⟩) < v (ix3 β n ⟨1 + j.val, by omega⟩) := of_bit h
  rw [e1, e2] at h'
  exact h'

/-- The second bit, read. -/
theorem off_apply (P : FVec Ideal S8192x64x64 .f32) (β : Fin 8192) (n : Fin 64) (j : Fin 8)
    (h : off (nine P) (ix3 β n j) = 1#1) :
    P (ix3 β n (Spec.rank (fun k => P (ix3 β n k)) (j.castLE (by decide)))) ≠ Spec.thr := by
  have e := nine_apply P β n (j.castLE (by decide))
  generalize nine P = v at h e
  revert h
  pointwise [off]
  exact fun h hc => of_bit h (e.trans hc)

/-- The third bit, read. -/
theorem long_apply (r : FVec Ideal S8192x64x1 .f32) (β : Fin 8192) (n : Fin 64)
    (h : long r (ix2 β n) = 1#1) : Spec.eps ≤ r (ix3 β n 0) := by
  revert h
  pointwise [long]
  exact of_bit

/-- The precondition, read. -/
theorem tieFree (x : FVec Ideal S32x64x256x64 .f32) (h : fn (F := Ideal) x = fun _ => 1#1) (β : Fin 8192) :
    Spec.TieFree (Spec.stepVecs x β) := by
  rw [fn_eq] at h
  have hn : ∀ n, _ := fun n => andi_one (congrFun h (ix2 β n))
  have e : ∀ n, (fun k => probs x (ix3 β n k)) = Spec.prob (Spec.stepVecs x β) n := fun n =>
    funext fun k => probs_apply x β n k
  refine ⟨fun n j => ?_, fun n j => ?_, fun n => ?_⟩
  · have := distinct_apply (probs x) β n j (reduce_andi _ _ _ β n (andi_one (hn n).1).1 j)
    rw [e, probs_apply, probs_apply] at this
    exact this
  · have := off_apply (probs x) β n j (reduce_andi _ _ _ β n (andi_one (hn n).1).2 j)
    rw [e, probs_apply] at this
    exact this
  · have := long_apply _ β n (hn n).2
    rw [norms_apply] at this
    exact this

end Cert.Chain

end
-- ==== Proof.Finite.lean ====
/- Under the precondition every coordinate of every vector is finite, and every norm positive. -/
module

public import proofs.«01_k».proof.Proof.TopK
public import proofs.«01_k».proof.Proof.PreAt

@[expose] public section

noncomputable section

namespace Cert.Spec

open Idealize.ShloMosaic

/-- The least norm is a positive number. -/
theorem eps_pos : ∃ e : ℝ, 0 < e ∧ eps = (e : EReal) := by
  refine ⟨_, ?_, by simp [eps, Ideal.ofBits, Ideal.ieee]; rfl⟩
  positivity

/-- The temperature is a number between a twentieth and one. -/
theorem tau_real : ∃ t : ℝ, 1 / 20 < t ∧ t < 1 ∧ tau = (t : EReal) := by
  refine ⟨13421773 / 134217728, by norm_num, by norm_num, ?_⟩
  simp [tau, Ideal.ofBits, Ideal.ieee]
  rw [← EReal.coe_mul]
  norm_num

/-- The threshold is a positive number. -/
theorem thr_pos : ∃ h : ℝ, 0 < h ∧ thr = (h : EReal) := by
  refine ⟨_, ?_, by simp [thr, Ideal.ofBits, Ideal.ieee]; rfl⟩
  positivity

/-- The value that stands for a removed entry is minus thirty. -/
theorem gone_eq : gone = ((-30 : ℝ) : EReal) := by
  simp [gone, Ideal.ofBits, Ideal.ieee]
  rw [← EReal.coe_mul]
  norm_num

/-- The pattern of one half is one half. -/
theorem half_eq : half = ((1 / 2 : ℝ) : EReal) := by
  simp [half, Ideal.ofBits, Ideal.ieee]
  rw [← EReal.coe_mul]
  norm_num

/-- The pattern of two is two. -/
theorem two_eq : Ideal.ofBits .f32 0x40000000#32 = ((2 : ℝ) : EReal) := by
  simp [Ideal.ofBits, Ideal.ieee]
  rw [← EReal.coe_mul]
  norm_num

/-- Zero over anything positive. -/
theorem zero_div {y : EReal} (h : y ≠ 0) : Ideal.div 0 y = 0 := by
  unfold Ideal.div
  rw [if_neg h, zero_mul]

/-- A quotient of numbers. -/
theorem div_real {x y : ℝ} (h : y ≠ 0) : Ideal.div (x : EReal) (y : EReal) = ((x / y : ℝ) : EReal) := by
  rw [Ideal.div_coe h, ← EReal.coe_mul, mul_one_div]

/-- A sum of numbers. -/
theorem sum_real {ι : Type} (S : Finset ι) (f : ι → ℝ) : ∑ k ∈ S, (f k : EReal) = ((∑ k ∈ S, f k : ℝ) : EReal) :=
  by
  classical
  induction S using Finset.induction_on with
  | empty => simp
  | insert a S ha ih => rw [Finset.sum_insert ha, Finset.sum_insert ha, ih, EReal.coe_add]

/-- No norm is infinite: the row of an infinite vector would be constant. -/
theorem TieFree.norm_ne_top {X : Fin 64 → Fin 64 → EReal} (h : TieFree X) (n : Fin 64) : norm X n ≠ ⊤ := by
  intro hn
  have hz : ∀ d, normed X n d = 0 := fun d => by
    unfold normed Ideal.div
    rw [hn, max_eq_left le_top, if_neg EReal.top_ne_zero, EReal.inv_top, mul_zero]
  have hl : ∀ m, logit X n m = 0 := fun m => by
    unfold logit
    obtain ⟨t, ht, -, e⟩ := tau_real
    simp only [hz, zero_mul, Finset.sum_const_zero]
    exact zero_div (by rw [e]; exact_mod_cast (by linarith : t ≠ 0))
  have hp : ∀ m m', prob X n m = prob X n m' := fun m m' => by
    unfold prob expo
    simp only [hl]
  exact absurd (h.distinct n 0) (by rw [hp _ (rank (prob X n) ⟨1, by omega⟩)]; exact lt_irrefl _)

/-- A square is not negative. -/
theorem sq_nonneg' (x : EReal) : 0 ≤ x * x := by
  rcases le_total 0 x with h | h
  · exact mul_nonneg h h
  · rw [← neg_mul_neg]
    exact mul_nonneg (EReal.neg_nonneg.2 h) (EReal.neg_nonneg.2 h)

/-- Every coordinate is a number. -/
theorem TieFree.finite {X : Fin 64 → Fin 64 → EReal} (h : TieFree X) : ∃ r : Fin 64 → Fin 64 → ℝ, ∀ n d, X n d = (r n d : EReal) := by
  refine ⟨fun n d => (X n d).toReal, fun n d => ?_⟩
  have hs : ∑ k, X n k * X n k ≠ ⊤ := fun e => h.norm_ne_top n (by unfold norm; rw [e]; rfl)
  have hd : X n d * X n d ≠ ⊤ := fun e => hs (top_le_iff.1 (e ▸
    Finset.single_le_sum (f := fun k => X n k * X n k) (fun k _ => sq_nonneg' _) (Finset.mem_univ d)))
  refine (EReal.coe_toReal ?_ ?_).symm
  · intro e; rw [e] at hd; exact hd rfl
  · intro e; rw [e] at hd; exact hd rfl

/-- Every vector's sum of squares is positive. -/
theorem TieFree.pos {X : Fin 64 → Fin 64 → EReal} (h : TieFree X) {r : Fin 64 → Fin 64 → ℝ}
    (hr : ∀ n d, X n d = (r n d : EReal)) (n : Fin 64) : 0 < ∑ d, r n d * r n d := by
  obtain ⟨e, he, e'⟩ := eps_pos
  have hl := h.long n
  unfold norm at hl
  simp only [hr, ← EReal.coe_mul, sum_real] at hl
  rw [e', Ideal.sqrt_coe] at hl
  split_ifs at hl with hneg
  · exact absurd hl (by simp)
  · exact Real.sqrt_pos.1 (he.trans_le (by exact_mod_cast hl))

end Cert.Spec

end
-- ==== Proof.Similar.lean ====
/- Both sides' similarities of finite vectors: one real number, the cosine over the temperature; and the reference's
   probabilities, its softmax. -/
module

public import proofs.«01_k».proof.Proof.Finite

@[expose] public section

noncomputable section

namespace Cert.Spec

open Idealize.ShloMosaic

/-- The sum of the squares of vector `n`. -/
def squares (r : Fin 64 → Fin 64 → ℝ) (n : Fin 64) : ℝ := ∑ d, r n d * r n d

/-- The cosine of vectors `n` and `m` over the temperature. -/
def cosine (r : Fin 64 → Fin 64 → ℝ) (t : ℝ) (n m : Fin 64) : ℝ :=
  (∑ d, r n d * r m d) / (√(squares r n) * √(squares r m) * t)

/-- The softmax of row `n` of the cosines at `m`. -/
def soft (r : Fin 64 → Fin 64 → ℝ) (t : ℝ) (n m : Fin 64) : ℝ :=
  Real.exp (cosine r t n m) / ∑ k, Real.exp (cosine r t n k)

/-- Vectors whose coordinates are the numbers `r`, with positive sums of squares and norms that reach the bound, and the
    temperature the number `t`. -/
structure Numeric (X : Fin 64 → Fin 64 → EReal) (r : Fin 64 → Fin 64 → ℝ) (t : ℝ) : Prop where
  coord : ∀ n d, X n d = (r n d : EReal)
  pos : ∀ n, 0 < squares r n
  long : ∀ n, eps ≤ norm X n
  temp : tau = (t : EReal)
  warm : 1 / 20 < t

variable {X : Fin 64 → Fin 64 → EReal} {r : Fin 64 → Fin 64 → ℝ} {t : ℝ}

/-- The temperature is positive. -/
theorem Numeric.temp_pos (h : Numeric X r t) : 0 < t := by
  have := h.warm
  linarith

/-- A norm is the root of the sum of squares. -/
theorem Numeric.norm_eq (h : Numeric X r t) (n : Fin 64) : norm X n = (√(squares r n) : EReal) := by
  unfold norm
  simp only [h.coord, ← EReal.coe_mul, sum_real]
  exact if_neg (not_lt.2 (h.pos n).le)

/-- A normalized coordinate. -/
theorem Numeric.normed_eq (h : Numeric X r t) (n d : Fin 64) : normed X n d = ((r n d / √(squares r n) : ℝ) : EReal) := by
  unfold normed
  rw [max_eq_left (h.long n), h.norm_eq, h.coord]
  exact div_real (Real.sqrt_pos.2 (h.pos n)).ne'

/-- The reference's logit is the cosine over the temperature. -/
theorem Numeric.logit_eq (h : Numeric X r t) (n m : Fin 64) : logit X n m = (cosine r t n m : EReal) := by
  unfold logit
  simp only [h.normed_eq, ← EReal.coe_mul, sum_real]
  rw [h.temp, div_real h.temp_pos.ne']
  congr 1
  unfold cosine
  rw [Finset.sum_congr rfl fun d _ => div_mul_div_comm .., ← Finset.sum_div, div_div]

/-- The kernel's scaled coordinate. -/
theorem Numeric.scaled_eq (h : Numeric X r t) (n d : Fin 64) :
    scaled X n d = ((r n d / (√(squares r n) * √t) : ℝ) : EReal) := by
  unfold scaled
  simp only [h.coord, h.temp, ← EReal.coe_mul, sum_real]
  have hs : ∑ k, r n k * r n k * t = squares r n * t := (Finset.sum_mul ..).symm
  have hp : 0 < squares r n * t := mul_pos (h.pos n) h.temp_pos
  rw [hs, Ideal.rsqrt_coe, if_neg (not_lt.2 hp.le), if_neg hp.ne', ← EReal.coe_mul,
    Real.sqrt_mul (h.pos n).le, div_eq_mul_inv]

/-- The kernel's similarity is the same cosine over the temperature. -/
theorem Numeric.sim_eq (h : Numeric X r t) (m n : Fin 64) : sim X m n = (cosine r t n m : EReal) := by
  unfold sim
  simp only [h.scaled_eq, ← EReal.coe_mul, sum_real]
  congr 1
  unfold cosine
  rw [Finset.sum_congr rfl fun d _ => div_mul_div_comm .., ← Finset.sum_div]
  congr 1
  · exact Finset.sum_congr rfl fun d _ => mul_comm ..
  · rw [mul_mul_mul_comm, Real.mul_self_sqrt h.temp_pos.le, mul_comm (√(squares r m))]

/-- A cosine in absolute value is at most one. -/
theorem Numeric.abs_cosine_le (h : Numeric X r t) (n m : Fin 64) : |cosine r t n m| ≤ 1 / t := by
  have hd : 0 < √(squares r n) * √(squares r m) := mul_pos (Real.sqrt_pos.2 (h.pos n)) (Real.sqrt_pos.2 (h.pos m))
  have hc : |∑ d, r n d * r m d| ≤ √(squares r n) * √(squares r m) := by
    rw [← Real.sqrt_mul (h.pos n).le]
    refine Real.abs_le_sqrt ?_
    unfold squares
    simp only [← pow_two]
    exact Finset.sum_mul_sq_le_sq_mul_sq _ _ _
  unfold cosine
  rw [abs_div, abs_of_pos (mul_pos hd h.temp_pos), div_le_div_iff₀ (mul_pos hd h.temp_pos) h.temp_pos, one_mul]
  exact mul_le_mul_of_nonneg_right hc h.temp_pos.le

/-- A vector's cosine with itself is one. -/
theorem Numeric.cosine_self (h : Numeric X r t) (n : Fin 64) : cosine r t n n = 1 / t := by
  unfold cosine
  rw [Real.mul_self_sqrt (h.pos n).le]
  have hs := (h.pos n).ne'
  have ht := h.temp_pos.ne'
  change squares r n / _ = _
  field_simp

/-- No cosine over the temperature exceeds the vector's own. -/
theorem Numeric.cosine_le (h : Numeric X r t) (n m : Fin 64) : cosine r t n m ≤ cosine r t n n := by
  rw [h.cosine_self]
  exact (le_abs_self _).trans (h.abs_cosine_le n m)

/-- No cosine over the temperature is below the value that stands for a removed entry. -/
theorem Numeric.gone_le (h : Numeric X r t) (n m : Fin 64) : gone ≤ (cosine r t n m : EReal) := by
  rw [gone_eq, EReal.coe_le_coe_iff]
  have h1 := neg_le_of_abs_le (h.abs_cosine_le n m)
  have h2 : 1 / t ≤ 20 := by
    rw [div_le_iff₀ h.temp_pos]
    have := h.warm
    linarith
  linarith

/-- The reference's probability is the softmax. -/
theorem Numeric.prob_eq (h : Numeric X r t) (n m : Fin 64) : prob X n m = (soft r t n m : EReal) := by
  obtain ⟨k, -, hk⟩ := Finset.exists_mem_eq_sup Finset.univ Finset.univ_nonempty fun k => logit X n k
  have he : ∀ m, expo X n m = (Real.exp (cosine r t n m - cosine r t n k) : EReal) := fun m => by
    unfold expo
    rw [hk, h.logit_eq, h.logit_eq, ← EReal.coe_sub]
    rfl
  unfold prob
  simp only [he, sum_real]
  have hs : ∑ j, Real.exp (cosine r t n j - cosine r t n k) = (∑ j, Real.exp (cosine r t n j)) / Real.exp (cosine r t n k) := by
    rw [Finset.sum_div]
    exact Finset.sum_congr rfl fun j _ => Real.exp_sub ..
  have hz : 0 < ∑ j, Real.exp (cosine r t n j) := Finset.sum_pos (fun j _ => Real.exp_pos _) Finset.univ_nonempty
  rw [hs, div_real (div_pos hz (Real.exp_pos _)).ne', Real.exp_sub, div_div_div_cancel_right₀ (Real.exp_pos _).ne']
  rfl

/-- Vectors without ties are such. -/
theorem TieFree.real (h : TieFree X) : ∃ r t, Numeric X r t := by
  obtain ⟨r, hr⟩ := h.finite
  obtain ⟨t, ht, -, e⟩ := tau_real
  exact ⟨r, t, hr, h.pos hr, h.long, e, ht⟩

end Cert.Spec

end
-- ==== Proof.Select.lean ====
/- The selection: removing a row's greatest entry seven times over leaves its eighth greatest, and the entries at or
   above that one are the eight greatest, when the entries from the second greatest to the ninth are distinct. -/
module

public import proofs.«01_k».proof.Proof.Spec

@[expose] public section

namespace Cert.Spec

section Row

variable (s : Fin 64 → EReal) (n : Fin 64) (ρ : ℕ → Fin 64)

/-- A row whose places are listed by rank: the list names every place, its first two differ, and its entries don't increase; the entry at `n`
    is the greatest, none is below the value that stands for a removed entry, and from the second greatest to the ninth
    the entries decrease strictly. -/
structure Ranked : Prop where
  onto : ∀ m, ∃ i, i < 64 ∧ ρ i = m
  first : ρ 0 ≠ ρ 1
  anti : ∀ i j, i < j → j < 64 → s (ρ j) ≤ s (ρ i)
  top : ∀ m, s m ≤ s n
  kept : ∀ m, gone ≤ s m
  strict : ∀ i, 1 ≤ i → i < 8 → s (ρ (i + 1)) < s (ρ i)

variable {s n ρ}

/-- A lesser entry is of a later rank. -/
theorem Ranked.lt_of_not_le (h : Ranked s n ρ) {i j : ℕ} (hj : j < 64) (hi : i < 64) (hlt : s (ρ j) < s (ρ i)) : i < j := by
  by_contra hji
  rcases Nat.lt_or_eq_of_le (Nat.not_lt.1 hji) with h' | rfl
  · exact absurd (h.anti j i h' hi) (not_le.2 hlt)
  · exact lt_irrefl _ hlt

/-- A row with the entries at or above `v` removed. -/
noncomputable def cut (s : Fin 64 → EReal) (v : EReal) : Fin 64 → EReal := fun m => if v ≤ s m then gone else s m

/-- Removing the greatest of a cut row, whose greatest is `v'`, cuts it at `v'`. -/
theorem dropMax_cut {v v' : EReal} (hv : v' ≤ v) (hsup : Finset.univ.sup (cut s v) = v') :
    dropMax (cut s v) = cut s v' := by
  funext m
  unfold dropMax
  rw [hsup]
  unfold cut
  by_cases h1 : v ≤ s m
  · rw [if_pos h1, if_pos (hv.trans h1), ite_self]
  · rw [if_neg h1]

/-- The greatest of a row cut at the entry of rank `k` is the entry of the next rank. -/
theorem Ranked.sup_cut (h : Ranked s n ρ) {k : ℕ} (h1 : 1 ≤ k) (h8 : k < 8) :
    Finset.univ.sup (cut s (s (ρ k))) = s (ρ (k + 1)) := by
  refine le_antisymm (Finset.sup_le fun m _ => ?_) ?_
  · unfold cut
    split_ifs with hm
    · exact h.kept _
    · obtain ⟨i, hi, rfl⟩ := h.onto m
      have hki := h.lt_of_not_le hi (by omega) (not_le.1 hm)
      rcases Nat.lt_or_eq_of_le (Nat.succ_le_of_lt hki) with h' | h'
      · exact h.anti _ _ h' hi
      · exact le_of_eq (by rw [← h'])
  · refine le_trans (le_of_eq ?_) (Finset.le_sup (Finset.mem_univ (ρ (k + 1))))
    unfold cut
    rw [if_neg (not_le.2 (h.strict k h1 h8))]

/-- The greatest of a row without the entry at `n` is the entry of the second rank. -/
theorem Ranked.sup_without (h : Ranked s n ρ) : Finset.univ.sup (without n s) = s (ρ 1) := by
  obtain ⟨i, hi, hn⟩ := h.onto n
  refine le_antisymm (Finset.sup_le fun m _ => ?_) ?_
  · unfold without
    split_ifs with hm
    · exact h.kept _
    · obtain ⟨j, hj, rfl⟩ := h.onto m
      rcases Nat.eq_zero_or_pos j with rfl | hj0
      · have hi0 : i ≠ 0 := fun h0 => hm (by rw [← hn, h0])
        refine (h.top (ρ 0)).trans ?_
        rw [← hn]
        rcases Nat.lt_or_eq_of_le (Nat.pos_of_ne_zero hi0) with h' | h'
        · exact h.anti 1 i h' hi
        · exact le_of_eq (by rw [← h'])
      · rcases Nat.lt_or_eq_of_le hj0 with h' | h'
        · exact h.anti 1 j h' hj
        · exact le_of_eq (by rw [← h'])
  · by_cases h1 : ρ 1 = n
    · by_cases h0 : ρ 0 = n
      · exact absurd (h0.trans h1.symm) h.first
      · refine (h.anti 0 1 (by omega) (by omega)).trans (le_trans (le_of_eq ?_) (Finset.le_sup (Finset.mem_univ (ρ 0))))
        unfold without
        rw [if_neg h0]
    · refine le_trans (le_of_eq ?_) (Finset.le_sup (Finset.mem_univ (ρ 1)))
      unfold without
      rw [if_neg h1]

/-- Removing that one too cuts the row at it. -/
theorem Ranked.dropMax_without (h : Ranked s n ρ) : dropMax (without n s) = cut s (s (ρ 1)) := by
  funext m
  unfold dropMax
  rw [h.sup_without]
  unfold without cut
  by_cases h1 : m = n
  · subst h1
    rw [if_pos rfl, if_pos (h.top _), ite_self]
  · rw [if_neg h1]

/-- The kernel's selection finds the entry of the eighth rank. -/
theorem Ranked.eighth_eq (h : Ranked s n ρ) : eighth n s = s (ρ 7) := by
  have step : ∀ k, 1 ≤ k → k < 8 → dropMax (cut s (s (ρ k))) = cut s (s (ρ (k + 1))) := fun k h1 h8 =>
    dropMax_cut (h.anti k (k + 1) (by omega) (by omega)) (h.sup_cut h1 h8)
  unfold eighth
  rw [h.dropMax_without, step 1, step 2, step 3, step 4, step 5, h.sup_cut] <;> omega

/-- An entry is among the eight greatest exactly when it is at or above the eighth. -/
theorem Ranked.top_iff (h : Ranked s n ρ) (m : Fin 64) : (∃ j, j < 8 ∧ ρ j = m) ↔ s (ρ 7) ≤ s m := by
  constructor
  · rintro ⟨j, hj, rfl⟩
    rcases Nat.lt_or_eq_of_le (Nat.le_of_lt_succ hj) with h' | rfl
    · exact h.anti j 7 h' (by omega)
    · exact le_rfl
  · intro hm
    obtain ⟨i, hi, rfl⟩ := h.onto m
    refine ⟨i, ?_, rfl⟩
    by_contra hi8
    have h78 := h.strict 7 (by omega) (by omega)
    have : s (ρ i) ≤ s (ρ 8) := by
      rcases Nat.lt_or_eq_of_le (Nat.le_of_not_lt hi8) with h' | h'
      · exact h.anti 8 i h' hi
      · exact le_of_eq (by rw [← h'])
    exact absurd (hm.trans this) (not_le.2 h78)

end Row

end Cert.Spec
-- ==== Proof.Equation.lean ====
/- The equation: for vectors without ties, the kernel's block of a time step is the reference's. -/
module

public import proofs.«01_k».proof.Proof.Similar
public import proofs.«01_k».proof.Proof.Select

@[expose] public section

noncomputable section

namespace Cert.Spec

open Idealize.ShloMosaic

variable {X : Fin 64 → Fin 64 → EReal} {r : Fin 64 → Fin 64 → ℝ} {t : ℝ}

/-- The softmax keeps the cosines' order. -/
theorem soft_le_iff (n m m' : Fin 64) : soft r t n m ≤ soft r t n m' ↔ cosine r t n m ≤ cosine r t n m' := by
  have hz : 0 < ∑ k, Real.exp (cosine r t n k) := Finset.sum_pos (fun _ _ => Real.exp_pos _) Finset.univ_nonempty
  unfold soft
  rw [div_le_div_iff_of_pos_right hz, Real.exp_le_exp]

/-- The places of a row by rank, for every natural number. -/
def order (X : Fin 64 → Fin 64 → EReal) (n : Fin 64) (i : ℕ) : Fin 64 :=
  rank (prob X n) ⟨i % 64, Nat.mod_lt _ (by decide)⟩

/-- Below 64 it is the rank. -/
theorem order_of_lt (n : Fin 64) {i : ℕ} (h : i < 64) : order X n i = rank (prob X n) ⟨i, h⟩ := by
  unfold order
  congr 1
  exact Fin.ext (Nat.mod_eq_of_lt h)

/-- The rows of the cosines are ranked as the probabilities are. -/
theorem TieFree.ranked (h : TieFree X) (hX : Numeric X r t) (n : Fin 64) :
    Ranked (fun m => (cosine r t n m : EReal)) n (order X n) := by
  have hp : ∀ m m', prob X n m ≤ prob X n m' ↔ cosine r t n m ≤ cosine r t n m' := fun m m' => by
    rw [hX.prob_eq, hX.prob_eq, EReal.coe_le_coe_iff, soft_le_iff]
  refine ⟨fun m => ?_, ?_, fun i j hij hj => ?_, fun m => ?_, fun m => hX.gone_le n m, fun i h1 h8 => ?_⟩
  · obtain ⟨i, rfl⟩ := rank_surjective (prob X n) m
    exact ⟨i.val, i.isLt, order_of_lt n i.isLt⟩
  · rw [order_of_lt n (by decide : 0 < 64), order_of_lt n (by decide : 1 < 64)]
    exact fun e => absurd (rank_injective _ e) (by decide)
  · rw [order_of_lt n hj, order_of_lt n (hij.trans hj)]
    exact EReal.coe_le_coe_iff.2 ((hp _ _).1 (rank_antitone (prob X n) hij))
  · exact EReal.coe_le_coe_iff.2 (hX.cosine_le n m)
  · have hd := h.distinct n ⟨i - 1, by omega⟩
    have e2 : (⟨2 + (i - 1), by omega⟩ : Fin 64) = ⟨i + 1, by omega⟩ := Fin.ext (by simp only []; omega)
    have e1 : (⟨1 + (i - 1), by omega⟩ : Fin 64) = ⟨i, by omega⟩ := Fin.ext (by simp only []; omega)
    rw [order_of_lt n (by omega : i + 1 < 64), order_of_lt n (by omega : i < 64)]
    simp only [e1, e2] at hd
    exact EReal.coe_lt_coe_iff.2 (not_le.1 fun hle => absurd ((hp _ _).2 hle) (not_le.2 hd))

/-- Half the reference's picked probability is what the kernel keeps. -/
theorem TieFree.kept_eq (h : TieFree X) (hX : Numeric X r t) (n m : Fin 64) :
    ∃ q : ℝ, picked (prob X n) m = (q : EReal) ∧ kept n (fun k => sim X k n) m = ((q / 2 : ℝ) : EReal) := by
  have hs : (fun k => sim X k n) = fun k => (cosine r t n k : EReal) := funext fun k => hX.sim_eq k n
  have hR := h.ranked hX n
  have hTop : Top (prob X n) m ↔ (cosine r t n (order X n 7) : EReal) ≤ (cosine r t n m : EReal) := by
    rw [← hR.top_iff m]
    constructor
    · rintro ⟨j, hj⟩
      exact ⟨j.val, j.isLt, (order_of_lt n (by omega)).trans hj⟩
    · rintro ⟨j, hj, e⟩
      exact ⟨⟨j, hj⟩, (order_of_lt n (by omega)).symm.trans e⟩
  obtain ⟨θ, hθ, eθ⟩ := thr_pos
  have hz : 0 < ∑ k, Real.exp (cosine r t n k) := Finset.sum_pos (fun _ _ => Real.exp_pos _) Finset.univ_nonempty
  have hZ : expSum (fun k => (cosine r t n k : EReal)) = ((∑ k, Real.exp (cosine r t n k) : ℝ) : EReal) := sum_real _ _
  have hlog : ∀ x : ℝ, 0 < x → Ideal.log (x : EReal) = (Real.log x : EReal) := fun x hx => if_neg (not_le.2 hx)
  rw [hs]
  unfold kept
  rw [hR.eighth_eq, hZ, eθ, hlog _ hz, hlog _ hθ, ← EReal.coe_add, half_eq, div_real hz.ne']
  have hcond : ((Real.log (∑ k, Real.exp (cosine r t n k)) + Real.log θ : ℝ) : EReal) ≤ (cosine r t n m : EReal)
      ↔ θ ≤ soft r t n m := by
    rw [EReal.coe_le_coe_iff, ← Real.log_mul hz.ne' hθ.ne', Real.log_le_iff_le_exp (mul_pos hz hθ)]
    unfold soft
    rw [le_div_iff₀ hz, mul_comm]
  have hkept : max (cosine r t n (order X n 7) : EReal)
      ((Real.log (∑ k, Real.exp (cosine r t n k)) + Real.log θ : ℝ) : EReal) ≤ (cosine r t n m : EReal)
      ↔ Top (prob X n) m ∧ θ ≤ soft r t n m := by
    rw [max_le_iff, hcond, hTop]
  unfold picked placed
  rw [eθ, hX.prob_eq]
  by_cases ht : Top (prob X n) m
  · have hne : soft r t n m ≠ θ := by
      obtain ⟨j, hj⟩ := ht
      intro e
      refine h.off n j ?_
      rw [hj, hX.prob_eq, eθ, e]
    rw [if_pos ht]
    by_cases hle : θ ≤ soft r t n m
    · refine ⟨soft r t n m, if_pos (EReal.coe_lt_coe_iff.2 (lt_of_le_of_ne hle hne.symm)), ?_⟩
      rw [if_pos (hkept.2 ⟨ht, hle⟩), Ideal.exp_coe, ← EReal.coe_mul]
      congr 1
      unfold soft
      ring
    · refine ⟨0, if_neg fun hlt => hle (EReal.coe_lt_coe_iff.1 hlt).le, ?_⟩
      rw [if_neg fun hh => hle (hkept.1 hh).2]
      simp
  · rw [if_neg ht, if_neg fun hh => ht (hkept.1 hh).1]
    refine ⟨0, ?_, by simp⟩
    simp

/-- For vectors without ties, the kernel's block is the reference's. -/
theorem TieFree.block_eq (h : TieFree X) (n m : Fin 64) : block X n m = refBlock X n m := by
  obtain ⟨r, t, hX⟩ := h.real
  obtain ⟨q, e1, e2⟩ := h.kept_eq hX n m
  obtain ⟨q', e1', e2'⟩ := h.kept_eq hX m n
  unfold block refBlock
  rw [e1, e2, e1', e2', two_eq, ← EReal.coe_add, ← EReal.coe_add, div_real two_ne_zero, add_div]

end Cert.Spec

end
-- ==== Proof.Results.lean ====
/- The two results are one array: at every batch and time step, the kernel's block is the reference's. -/
module

public import proofs.«01_k».proof.Proof.Array
public import proofs.«01_k».proof.Proof.RefAt
public import proofs.«01_k».proof.Proof.Equation

@[expose] public section

set_option maxRecDepth 16384

noncomputable section

namespace Cert.Chain

open Idealize.ShloMosaic

/-- Where the precondition holds of the features, the array that the kernel leaves is the reference's. -/
theorem result_eq (V0 : Valuation Cert.ReferenceIdeal.τ Cert.ReferenceIdeal.sig (Elt Ideal))
    (x : FVec Ideal Cert.ReferenceIdeal.S32x64x256x64 .f32)
    (hx : (V0 (Proc.devRef .tc Cert.ReferenceIdeal.main_arg0) : FVec Ideal Cert.ReferenceIdeal.S32x64x256x64 .f32) = x)
    (h : Cert.Pre_tie_free.fn (F := Ideal) x = fun _ => 1#1) :
    Cert.KernelIdeal.Chunk.result x = mean (Cert.ReferenceIdeal.Value.res_main_v54 V0) := by
  funext i
  obtain ⟨b, t, n, m, rfl⟩ : ∃ b t n m, i = ix4 b t n m := ⟨i 0, i 1, i 2, i 3, eq_ix4 i⟩
  rw [result_apply, hx]
  have hT := tieFree x h ⟨b.val * 256 + t.val, by omega⟩
  rw [stepVecs_flat] at hT
  exact hT.block_eq n m

end Cert.Chain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.PreFacts
public import proofs.«01_k».proof.Proof.Results
public import Idealize.ShloMosaic.Adequacy
public import Idealize.ShloMosaic.Init

@[expose] public section

noncomputable section

namespace Cert.Proof

open Idealize.ShloMosaic Idealize.SL.Sem Cert.Kernel

/-- The reference runs, leaves its argument and ends with every counter at zero: it declares none. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, sem_eq_zero_of_no_sems (by decide) r.2⟩) (Cert.ReferenceIdeal.Value.run m g)

/-- The kernel and the reference end with equal results where the precondition holds. -/
theorem algebraic : Cert.algebraic_KernelIdeal_ReferenceIdeal_pre_tie_free := by
  intro m g m' g' hpre harg
  refine ⟨fun c => Cert.KernelIdeal.Chunk.result
      (m ((c.tc : Thread Cert.KernelIdeal.nD Cert.KernelIdeal.τ).loc Cert.KernelIdeal.main_arg0)),
    Cert.KernelIdeal.Chunk.run m g, ?_⟩
  exact (θ_run Cert.ReferenceIdeal.defs _ _).mono
    (fun _ h c => ⟨(h c).1.trans (Cert.Chain.result_eq _ _ (harg c) (hpre c)).symm, (h c).2⟩)
    (Cert.ReferenceIdeal.Value.run m' g')

/-- Everything that is claimed. -/
theorem claim : Cert.Claim :=
  ⟨Cert.Kernel.Gen.facts, Cert.KernelIdeal.Gen.facts, Cert.ReferenceIdeal.Gen.facts, Cert.Pre_tie_free.facts,
    fun m g _ => Cert.Kernel.Gen.frame m g, fun m g _ => Cert.KernelIdeal.Gen.frame m g,
    fun m g _ => Cert.KernelIdeal.Gen.frame m g, fun m g _ => frame_reference m g, fun m g _ => frame_reference m g,
    trivial, algebraic⟩

end Cert.Proof

end
